-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128 : Shape := ⟨2, ![16, 128]⟩
abbrev S10000x128 : Shape := ⟨2, ![10000, 128]⟩
abbrev S320000x128 : Shape := ⟨2, ![320000, 128]⟩
abbrev S10000 : Shape := ⟨1, ![10000]⟩
abbrev S320000 : Shape := ⟨1, ![320000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S10240x128 : Shape := ⟨2, ![10240, 128]⟩
abbrev S1 : Shape := ⟨1, ![1]⟩
abbrev S10240 : Shape := ⟨1, ![10240]⟩
abbrev S5x1x2048 : Shape := ⟨3, ![5, 1, 2048]⟩
abbrev S1x1x2048 : Shape := ⟨3, ![1, 1, 2048]⟩
abbrev S2048x128 : Shape := ⟨2, ![2048, 128]⟩
abbrev S2048 : Shape := ⟨1, ![2048]⟩
abbrev S16x2048 : Shape := ⟨2, ![16, 2048]⟩
abbrev S1x2048 : Shape := ⟨2, ![1, 2048]⟩
abbrev S125x1x2560 : Shape := ⟨3, ![125, 1, 2560]⟩
abbrev S1x1x2560 : Shape := ⟨3, ![1, 1, 2560]⟩
abbrev S2560x128 : Shape := ⟨2, ![2560, 128]⟩
abbrev S2560 : Shape := ⟨1, ![2560]⟩
abbrev S16x2560 : Shape := ⟨2, ![16, 2560]⟩
abbrev S1x2560 : Shape := ⟨2, ![1, 2560]⟩
abbrev S1x256 : Shape := ⟨2, ![1, 256]⟩
abbrev S1x128 : Shape := ⟨2, ![1, 128]⟩
abbrev S128x256 : Shape := ⟨2, ![128, 256]⟩
abbrev S16x256 : Shape := ⟨2, ![16, 256]⟩
abbrev S16 : Shape := ⟨1, ![16]⟩
abbrev S16x1 : Shape := ⟨2, ![16, 1]⟩

abbrev nBuf : Space → Nat
  | .hbm => 30
  | .vmem => 20
  | .smem => 0
  | _ => 0

abbrev bufTy : (tb : Table) → Fin (tcTables nBuf tb) → BufTy
  | .hbm, ⟨0, _⟩ => ⟨S16x128, .f32⟩
  | .hbm, ⟨1, _⟩ => ⟨S10000x128, .f32⟩
  | .hbm, ⟨2, _⟩ => ⟨S320000x128, .f32⟩
  | .hbm, ⟨3, _⟩ => ⟨S10000, .i32⟩
  | .hbm, ⟨4, _⟩ => ⟨S320000, .i32⟩
  | .hbm, ⟨5, _⟩ => ⟨S384x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S10240x128, .f32⟩
  | .hbm, ⟨13, _⟩ => ⟨S_, .i32⟩
  | .hbm, ⟨14, _⟩ => ⟨S1, .i32⟩
  | .hbm, ⟨15, _⟩ => ⟨S10240x128, .f32⟩
  | .hbm, ⟨16, _⟩ => ⟨S_, .i32⟩
  | .hbm, ⟨17, _⟩ => ⟨S10240, .i32⟩
  | .hbm, ⟨18, _⟩ => ⟨S_, .i32⟩
  | .hbm, ⟨19, _⟩ => ⟨S1, .i32⟩
  | .hbm, ⟨20, _⟩ => ⟨S10240, .i32⟩
  | .hbm, ⟨21, _⟩ => ⟨S5x1x2048, .i32⟩
  | .hbm, ⟨22, _⟩ => ⟨S16x128, .f32⟩
  | .hbm, ⟨23, _⟩ => ⟨S125x1x2560, .i32⟩
  | .hbm, ⟨24, _⟩ => ⟨S16x128, .f32⟩
  | .hbm, ⟨25, _⟩ => ⟨S1x256, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S16x128, .f32⟩
  | .local _ .vmem, ⟨0, _⟩ => ⟨S1x1x2048, .i32⟩
  | .local _ .vmem, ⟨1, _⟩ => ⟨S1x1x2048, .i32⟩
  | .local _ .vmem, ⟨2, _⟩ => ⟨S2048x128, .f32⟩
  | .local _ .vmem, ⟨3, _⟩ => ⟨S2048x128, .f32⟩
  | .local _ .vmem, ⟨4, _⟩ => ⟨S16x128, .f32⟩
  | .local _ .vmem, ⟨5, _⟩ => ⟨S1x1x2560, .i32⟩
  | .local _ .vmem, ⟨6, _⟩ => ⟨S1x1x2560, .i32⟩
  | .local _ .vmem, ⟨7, _⟩ => ⟨S2560x128, .f32⟩
  | .local _ .vmem, ⟨8, _⟩ => ⟨S2560x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S384x256, .f32⟩
  | .local _ .vmem, ⟨14, _⟩ => ⟨S1x256, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![125], ![false]⟩

def k1_cond1 (i : grid1.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def k1_cond2 (i : grid1.Coords) : BitVec 1 :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .ne v14 c0_i32_6
  v15

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x2560 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S16x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S384x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S16x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
-- ==== ReferenceIdeal.lean ====
abbrev S16x128 : Shape := ⟨2, ![16, 128]⟩
abbrev S10000x128 : Shape := ⟨2, ![10000, 128]⟩
abbrev S320000x128 : Shape := ⟨2, ![320000, 128]⟩
abbrev S10000 : Shape := ⟨1, ![10000]⟩
abbrev S320000 : Shape := ⟨1, ![320000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S10000x1 : Shape := ⟨2, ![10000, 1]⟩
abbrev S320000x1 : Shape := ⟨2, ![320000, 1]⟩
abbrev S16x384 : Shape := ⟨2, ![16, 384]⟩
abbrev S16x256 : Shape := ⟨2, ![16, 256]⟩
abbrev S1x256 : Shape := ⟨2, ![1, 256]⟩
abbrev S1x128 : Shape := ⟨2, ![1, 128]⟩
abbrev S16 : Shape := ⟨1, ![16]⟩
abbrev S16x1 : Shape := ⟨2, ![16, 1]⟩

abbrev nBuf : Space → Nat
  | .hbm => 83
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S10000x128, .f32⟩
  | .hbm, ⟨2, _⟩ => ⟨S320000x128, .f32⟩
  | .hbm, ⟨3, _⟩ => ⟨S10000, .i32⟩
  | .hbm, ⟨4, _⟩ => ⟨S320000, .i32⟩
  | .hbm, ⟨5, _⟩ => ⟨S384x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S16x128, .f32⟩
  | .hbm, ⟨13, _⟩ => ⟨S10000x1, .i32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S320000x1, .i32⟩
  | .hbm, ⟨18, _⟩ => ⟨S16x128, .f32⟩
  | .hbm, ⟨19, _⟩ => ⟨S16x384, .f32⟩
  | .hbm, ⟨20, _⟩ => ⟨S16x256, .f32⟩
  | .hbm, ⟨21, _⟩ => ⟨S1x256, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x128, .f32⟩
  | .hbm, ⟨28, _⟩ => ⟨S1x128, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S16x128, .f32⟩
  | .hbm, ⟨33, _⟩ => ⟨S_, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | .hbm, ⟨39, _⟩ => ⟨S_, .f32⟩
  | .hbm, ⟨40, _⟩ => ⟨S16, .f32⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S_, .i32⟩
  | .hbm, ⟨46, _⟩ => ⟨S_, .f32⟩
  | .hbm, ⟨47, _⟩ => ⟨S16, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S16x128, .f32⟩
  | .hbm, ⟨53, _⟩ => ⟨S16x128, .f32⟩
  | .hbm, ⟨54, _⟩ => ⟨S16x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16, .f32⟩
  | .hbm, ⟨60, _⟩ => ⟨S16x1, .f32⟩
  | .hbm, ⟨61, _⟩ => ⟨S16x1, .f32⟩
  | .hbm, ⟨62, _⟩ => ⟨S16x1, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S16x1, .f32⟩
  | .hbm, ⟨68, _⟩ => ⟨S16x1, .f32⟩
  | .hbm, ⟨69, _⟩ => ⟨S16x128, .f32⟩
  | .hbm, ⟨70, _⟩ => ⟨S16x128, .f32⟩
  | .hbm, ⟨71, _⟩ => ⟨S_, .f32⟩
  | .hbm, ⟨72, _⟩ => ⟨S16x1, .f32⟩
  | .hbm, ⟨73, _⟩ => ⟨S16x1, .f32⟩
  | .hbm, ⟨74, _⟩ => ⟨S16x1, .f32⟩
  | .hbm, ⟨75, _⟩ => ⟨S16x128, .f32⟩
  | .hbm, ⟨76, _⟩ => ⟨S16x128, .f32⟩
  | .hbm, ⟨77, _⟩ => ⟨S1x128, .f32⟩
  | .hbm, ⟨78, _⟩ => ⟨S16x128, .f32⟩
  | .hbm, ⟨79, _⟩ => ⟨S16x128, .f32⟩
  | .hbm, ⟨80, _⟩ => ⟨S1x128, .f32⟩
  | .hbm, ⟨81, _⟩ => ⟨S16x128, .f32⟩
  | .hbm, ⟨82, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_cst : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_cst_3 : Ref sig .tc := ⟨.hbm, 63, rfl⟩
abbrev main_call1_v13 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_5 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩

abbrev nD : Nat := 1
abbrev τ : Topo := Topo.v7x

variable {F : FTy → Type} [FloatOps F]
-- ==== Proof.Hand.Nodes.lean ====
/-
  The first pallas_call of @main: the node rows summed by graph id, five blocks of 2048 rows, over any float
  semantics `F` and any contents `V` of the buffers at its entry.

  The body writes the output block at every grid point: at the first it stores the block's one-hot product, at the
  others it adds the product to what the block holds. So after the points `0 ‥ n` the block is `nodeSum … n`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The grid points -/

/-- The first condition of the body holds at the first point and at no other. -/
theorem node_first (t : Fin cfg0.N) : k0_cond1 (grid0.coords t) = 1#1 ↔ t.val = 0 :=
  (by decide +kernel : ∀ t : Fin grid0.N, k0_cond1 (grid0.coords t) = 1#1 ↔ t.val = 0) t

/-- The second condition of the body holds at every point but the first. -/
theorem node_later (t : Fin cfg0.N) : k0_cond2 (grid0.coords t) = 1#1 ↔ t.val ≠ 0 :=
  (by decide +kernel : ∀ t : Fin grid0.N, k0_cond2 (grid0.coords t) = 1#1 ↔ t.val ≠ 0) t

/-- One of the two conditions holds at every grid coordinate, so the output block is written at every point. -/
theorem node_live : ∀ i, cfg0.idle 2 i = false :=
  (by decide +kernel : ∀ i : grid0.Coords, idle0 2 i = false)

/-! ## The body at a point -/

section Body

variable (c : Dev nD) (E : Set ℕ) (i : grid0.Coords)
  (a1 : Memref sig .tc .vmem S1x1x2048 .i32) (h1 : a1.IsWhole)
  (a2 : Memref sig .tc .vmem S2048x128 .f32) (h2 : a2.IsWhole)
  (a3 : Memref sig .tc .vmem S16x128 .f32) (h3 : a3.IsWhole)
  (ids : Vec F S1x1x2048 .i32) (rows : Vec F S2048x128 .f32)

/-- At the first point the body leaves in the output block the product of the one-hot matrix of the ids with the
    rows, whatever the block held. -/
theorem node_body_first (hc1 : k0_cond1 i = 1#1) (hc2 : ¬k0_cond2 i = 1#1)
    (K : PUnit → sProp 𝕄) :
    iprop(owns (c : Thread nD τ) a1 fullShare ids ∗ owns (c : Thread nD τ) a2 fullShare rows
        ∗ (∃ d, owns (c : Thread nD τ) a3 fullShare d)
        ∗ (iprop(owns (c : Thread nD τ) a1 fullShare ids ∗ owns (c : Thread nD τ) a2 fullShare rows
            ∗ owns (c : Thread nD τ) a3 fullShare (k0_pay1 ids rows)) -∗ K ⟨⟩))
      ⊢ wp frame (wpE (defs₀ (F := F)) Variants.none c none) E (cc0__seg_body i a1 h1 a2 h2 a3 h3) K := by
  simp only [cc0__seg_body_eq_skeleton]; unfold cc0__seg_body_skel
  unfold owns
  iintro ⟨⟨%f1, %hf1, H1⟩, ⟨%f2, %hf2, H2⟩, ⟨%d3, %f3, -, H3⟩, Hk⟩
  obtain rfl := h1.eq_unread hf1; obtain rfl := h2.eq_unread hf2
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_full, View.readAt_full, View.readAt_full, hf1, hf2]

/-- At a later point the body adds that product to what the output block holds. -/
theorem node_body_later (hc1 : ¬k0_cond1 i = 1#1) (hc2 : k0_cond2 i = 1#1) (acc : Vec F S16x128 .f32)
    (K : PUnit → sProp 𝕄) :
    iprop(owns (c : Thread nD τ) a1 fullShare ids ∗ owns (c : Thread nD τ) a2 fullShare rows
        ∗ owns (c : Thread nD τ) a3 fullShare acc
        ∗ (iprop(owns (c : Thread nD τ) a1 fullShare ids ∗ owns (c : Thread nD τ) a2 fullShare rows
            ∗ owns (c : Thread nD τ) a3 fullShare (k0_pay2 ids rows acc)) -∗ K ⟨⟩))
      ⊢ wp frame (wpE (defs₀ (F := F)) Variants.none c none) E (cc0__seg_body i a1 h1 a2 h2 a3 h3) K := by
  simp only [cc0__seg_body_eq_skeleton]; unfold cc0__seg_body_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_full, View.readAt_full, View.readAt_full, View.readAt_full, hf1, hf2, hf3]

end Body

/-! ## The region's proof data -/

section Data

variable (V : (c : Dev nD) → (b : Ref sig .tc) → Buf (Elt F) ((c : Thread nD τ).loc b))

/-- Window `w`'s block at point `t`, of the array as the region finds it. -/
def nodeBlk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The output block after the points `0 ‥ n`. -/
def nodeSum (c : Dev nD) : (n : ℕ) → n < cfg0.N → Vec F S16x128 .f32
  | 0, h => k0_pay1 (nodeBlk V c 0 ⟨0, h⟩) (nodeBlk V c 1 ⟨0, h⟩)
  | n + 1, h => k0_pay2 (nodeBlk V c 0 ⟨n + 1, h⟩) (nodeBlk V c 1 ⟨n + 1, h⟩) (nodeSum c n (Nat.lt_of_succ_lt h))

/-- The proof data of the first pallas_call: the arrays as it finds them; after the body at a point the inputs'
    buffers at their blocks and the output's at the sum so far. -/
def dat0 (c : Dev nD) : Dat τ (Elt F) Unit ℕ (UR sig nD τ) ℕ cfg0 c where
  A w := V c (Pipeline.arrRef spec0 w)
  after w t := match w with
    | ⟨0, _⟩ => nodeBlk V c 0 t
    | ⟨1, _⟩ => nodeBlk V c 1 t
    | ⟨2, _⟩ => nodeSum V c t.val t.isLt
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = nodeBlk V c 0 t := by dsimp only [dat0]
theorem dat0_after1 (c : Dev nD) (t : Fin cfg0.N) : (dat0 V c).after 1 t = nodeBlk V c 1 t := by dsimp only [dat0]
theorem dat0_after2 (c : Dev nD) (t : Fin cfg0.N) : (dat0 V c).after 2 t = nodeSum V c t.val t.isLt := by
  dsimp only [dat0]

/-- The ids' buffer holds its block at every point. -/
theorem dat0_before0 (c : Dev nD) (t : Fin cfg0.N) (d) : (dat0 V c).before 0 t d = nodeBlk V c 0 t :=
  ((dat0 V c).before_in_eq_fetched 0 rfl (fun _ => rfl) (fun _ _ _ => rfl)
    (fun t => by rw [dat0_after0]; unfold Dat.blockOf nodeBlk; rw [dat0_A]) t d).trans
    (by unfold Dat.fetched Dat.blockOf nodeBlk; rw [dat0_A]; rfl)

/-- The rows' buffer holds its block at every point. -/
theorem dat0_before1 (c : Dev nD) (t : Fin cfg0.N) (d) : (dat0 V c).before 1 t d = nodeBlk V c 1 t :=
  ((dat0 V c).before_in_eq_fetched 1 rfl (fun _ => rfl) (fun _ _ _ => rfl)
    (fun t => by rw [dat0_after1]; unfold Dat.blockOf nodeBlk; rw [dat0_A]) t d).trans
    (by unfold Dat.fetched Dat.blockOf nodeBlk; rw [dat0_A]; rfl)

/-- At a point that is not the first the output's buffer holds the sum up to the point before. -/
theorem dat0_before2 (c : Dev nD) (t : Fin cfg0.N) (ht : t.val ≠ 0) (d) :
    (dat0 V c).before 2 t d = nodeSum V c (t.val - 1) (Nat.lt_of_le_of_lt (Nat.sub_le _ _) t.isLt) := by
  have hN : t.val < 5 := lt_of_lt_of_eq t.isLt (show cfg0.N = 5 from N_0)
  rw [Dat.before_out_kept _ 2 rfl t ht
    (Bool.eq_false_iff.mpr fun h => by have := (flush0_2 _).mp h; dsimp only at this; omega)
    node_live (fun _ _ => rfl), dat0_after2]

/-- The sum at the first point. -/
theorem nodeSum_first (c : Dev nD) (t : Fin cfg0.N) (ht : t.val = 0) :
    nodeSum V c t.val t.isLt = k0_pay1 (nodeBlk V c 0 t) (nodeBlk V c 1 t) := by
  obtain ⟨n, hn⟩ := t; obtain rfl : n = 0 := ht; rfl

/-- The sum at a later point, from the sum at the point before. -/
theorem nodeSum_later (c : Dev nD) (t : Fin cfg0.N) (ht : t.val ≠ 0) :
    nodeSum V c t.val t.isLt = k0_pay2 (nodeBlk V c 0 t) (nodeBlk V c 1 t)
      (nodeSum V c (t.val - 1) (Nat.lt_of_le_of_lt (Nat.sub_le _ _) t.isLt)) := by
  obtain ⟨n, hn⟩ := t
  cases n with
  | zero => exact absurd rfl ht
  | succ n => rfl

/-! ## The body's obligation -/

/-- What the body is called with at point `t`, window by window. -/
def nodePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns, window by window. -/
def nodePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: its first form at the first point, its second at the others. -/
theorem node_sound (c : Dev nD) (t : Fin cfg0.N) :
    nodePre V c t ⊢ wp frame (wpE (defs₀ (F := F)) Variants.none c none) Set.univ (bodyAt0 t)
      (fun _ => nodePost V c t) := by
  unfold nodePre nodePost bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  by_cases ht : t.val = 0
  · rw [nodeSum_first V c t ht]
    iintro ⟨HΦ, Ho, ⟨%d0, H0⟩, ⟨%d1, H1⟩, ⟨%d2, H2⟩⟩
    iapply (node_body_first c Set.univ (grid0.coords t) _ _ _ _ _ _ (nodeBlk V c 0 t) (nodeBlk V c 1 t)
      ((node_first t).mpr ht) (fun h => (node_later t).mp h ht))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [nodeSum_later V c t ht]
    simp only [dat0_before2 V c t ht]
    iintro ⟨HΦ, Ho, ⟨%d0, H0⟩, ⟨%d1, H1⟩, ⟨%d2, H2⟩⟩
    iapply (node_body_later c Set.univ (grid0.coords t) _ _ _ _ _ _ (nodeBlk V c 0 t) (nodeBlk V c 1 t)
      (fun h => ht ((node_first t).mp h)) ((node_later t).mpr ht) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t` is the body as called there. -/
theorem node_row (t : Fin cfg0.N) : defs₀ (F := F) .tc cfg0.body (cfg0.bodyArgs t (cfg0.slots t)) = bodyAt0 t := by
  unfold defs₀; rw [Defs.onTc_tc]

/-- The obligation the pipeline asks of the body, at every point. -/
theorem node_obligation (c : Dev nD) : BodyObligation (dat0 (F := F) V c) (defs₀ (F := F)) Variants.none () Set.univ :=
  fun t => by
    rw [bigSep_W0, bigSep_W0, node_row, show cfg0.idle 2 (cfg0.grid.coords t) = false from node_live _]
    exact triple_restated (node_sound V c t) rfl .rfl fun _ => .rfl

end Data

end Cert.KernelIdeal.Hand

end
-- ==== Proof.Hand.Edges.lean ====
/-
  The second pallas_call of @main: the edge rows summed by graph id, 125 blocks of 2560 rows, over any float
  semantics `F` and any contents `V` of the buffers at its entry.

  The body writes the output block at every grid point: at the first it stores the block's one-hot product, at the
  others it adds the product to what the block holds. So after the points `0 ‥ n` the block is `edgeSum … n`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The grid points -/

/-- The first condition of the body holds at the first point and at no other. -/
theorem edge_first (t : Fin cfg1.N) : k1_cond1 (grid1.coords t) = 1#1 ↔ t.val = 0 :=
  (by decide +kernel : ∀ t : Fin grid1.N, k1_cond1 (grid1.coords t) = 1#1 ↔ t.val = 0) t

/-- The second condition of the body holds at every point but the first. -/
theorem edge_later (t : Fin cfg1.N) : k1_cond2 (grid1.coords t) = 1#1 ↔ t.val ≠ 0 :=
  (by decide +kernel : ∀ t : Fin grid1.N, k1_cond2 (grid1.coords t) = 1#1 ↔ t.val ≠ 0) t

/-- One of the two conditions holds at every grid coordinate, so the output block is written at every point. -/
theorem edge_live : ∀ i, cfg1.idle 2 i = false :=
  (by decide +kernel : ∀ i : grid1.Coords, idle1 2 i = false)

/-! ## The body at a point -/

section Body

variable (c : Dev nD) (E : Set ℕ) (i : grid1.Coords)
  (a1 : Memref sig .tc .vmem S1x1x2560 .i32) (h1 : a1.IsWhole)
  (a2 : Memref sig .tc .vmem S2560x128 .f32) (h2 : a2.IsWhole)
  (a3 : Memref sig .tc .vmem S16x128 .f32) (h3 : a3.IsWhole)
  (ids : Vec F S1x1x2560 .i32) (rows : Vec F S2560x128 .f32)

/-- At the first point the body leaves in the output block the product of the one-hot matrix of the ids with the
    rows, whatever the block held. -/
theorem edge_body_first (hc1 : k1_cond1 i = 1#1) (hc2 : ¬k1_cond2 i = 1#1)
    (K : PUnit → sProp 𝕄) :
    iprop(owns (c : Thread nD τ) a1 fullShare ids ∗ owns (c : Thread nD τ) a2 fullShare rows
        ∗ (∃ d, owns (c : Thread nD τ) a3 fullShare d)
        ∗ (iprop(owns (c : Thread nD τ) a1 fullShare ids ∗ owns (c : Thread nD τ) a2 fullShare rows
            ∗ owns (c : Thread nD τ) a3 fullShare (k1_pay1 ids rows)) -∗ K ⟨⟩))
      ⊢ wp frame (wpE (defs₀ (F := F)) Variants.none c none) E (cc1__seg_body i a1 h1 a2 h2 a3 h3) K := by
  simp only [cc1__seg_body_eq_skeleton]; unfold cc1__seg_body_skel
  unfold owns
  iintro ⟨⟨%f1, %hf1, H1⟩, ⟨%f2, %hf2, H2⟩, ⟨%d3, %f3, -, H3⟩, Hk⟩
  obtain rfl := h1.eq_unread hf1; obtain rfl := h2.eq_unread hf2
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_full, View.readAt_full, View.readAt_full, hf1, hf2]

/-- At a later point the body adds that product to what the output block holds. -/
theorem edge_body_later (hc1 : ¬k1_cond1 i = 1#1) (hc2 : k1_cond2 i = 1#1) (acc : Vec F S16x128 .f32)
    (K : PUnit → sProp 𝕄) :
    iprop(owns (c : Thread nD τ) a1 fullShare ids ∗ owns (c : Thread nD τ) a2 fullShare rows
        ∗ owns (c : Thread nD τ) a3 fullShare acc
        ∗ (iprop(owns (c : Thread nD τ) a1 fullShare ids ∗ owns (c : Thread nD τ) a2 fullShare rows
            ∗ owns (c : Thread nD τ) a3 fullShare (k1_pay2 ids rows acc)) -∗ K ⟨⟩))
      ⊢ wp frame (wpE (defs₀ (F := F)) Variants.none c none) E (cc1__seg_body i a1 h1 a2 h2 a3 h3) K := by
  simp only [cc1__seg_body_eq_skeleton]; unfold cc1__seg_body_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  rw [View.read_writes_full, View.readAt_full, View.readAt_full, View.readAt_full, hf1, hf2, hf3]

end Body

/-! ## The region's proof data -/

section Data

variable (V : (c : Dev nD) → (b : Ref sig .tc) → Buf (Elt F) ((c : Thread nD τ).loc b))

/-- Window `w`'s block at point `t`, of the array as the region finds it. -/
def edgeBlk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The output block after the points `0 ‥ n`. -/
def edgeSum (c : Dev nD) : (n : ℕ) → n < cfg1.N → Vec F S16x128 .f32
  | 0, h => k1_pay1 (edgeBlk V c 0 ⟨0, h⟩) (edgeBlk V c 1 ⟨0, h⟩)
  | n + 1, h => k1_pay2 (edgeBlk V c 0 ⟨n + 1, h⟩) (edgeBlk V c 1 ⟨n + 1, h⟩) (edgeSum c n (Nat.lt_of_succ_lt h))

/-- The proof data of the second pallas_call: the arrays as it finds them; after the body at a point the inputs'
    buffers at their blocks and the output's at the sum so far. -/
def dat1 (c : Dev nD) : Dat τ (Elt F) Unit ℕ (UR sig nD τ) ℕ cfg1 c where
  A w := V c (Pipeline.arrRef spec1 w)
  after w t := match w with
    | ⟨0, _⟩ => edgeBlk V c 0 t
    | ⟨1, _⟩ => edgeBlk V c 1 t
    | ⟨2, _⟩ => edgeSum V c t.val t.isLt
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = edgeBlk V c 0 t := by dsimp only [dat1]
theorem dat1_after1 (c : Dev nD) (t : Fin cfg1.N) : (dat1 V c).after 1 t = edgeBlk V c 1 t := by dsimp only [dat1]
theorem dat1_after2 (c : Dev nD) (t : Fin cfg1.N) : (dat1 V c).after 2 t = edgeSum V c t.val t.isLt := by
  dsimp only [dat1]

/-- The ids' buffer holds its block at every point. -/
theorem dat1_before0 (c : Dev nD) (t : Fin cfg1.N) (d) : (dat1 V c).before 0 t d = edgeBlk V c 0 t :=
  ((dat1 V c).before_in_eq_fetched 0 rfl (fun _ => rfl) (fun _ _ _ => rfl)
    (fun t => by rw [dat1_after0]; unfold Dat.blockOf edgeBlk; rw [dat1_A]) t d).trans
    (by unfold Dat.fetched Dat.blockOf edgeBlk; rw [dat1_A]; rfl)

/-- The rows' buffer holds its block at every point. -/
theorem dat1_before1 (c : Dev nD) (t : Fin cfg1.N) (d) : (dat1 V c).before 1 t d = edgeBlk V c 1 t :=
  ((dat1 V c).before_in_eq_fetched 1 rfl (fun _ => rfl) (fun _ _ _ => rfl)
    (fun t => by rw [dat1_after1]; unfold Dat.blockOf edgeBlk; rw [dat1_A]) t d).trans
    (by unfold Dat.fetched Dat.blockOf edgeBlk; rw [dat1_A]; rfl)

/-- At a point that is not the first the output's buffer holds the sum up to the point before. -/
theorem dat1_before2 (c : Dev nD) (t : Fin cfg1.N) (ht : t.val ≠ 0) (d) :
    (dat1 V c).before 2 t d = edgeSum V c (t.val - 1) (Nat.lt_of_le_of_lt (Nat.sub_le _ _) t.isLt) := by
  have hN : t.val < 125 := lt_of_lt_of_eq t.isLt (show cfg1.N = 125 from N_1)
  rw [Dat.before_out_kept _ 2 rfl t ht
    (Bool.eq_false_iff.mpr fun h => by have := (flush1_2 _).mp h; dsimp only at this; omega)
    edge_live (fun _ _ => rfl), dat1_after2]

/-- The sum at the first point. -/
theorem edgeSum_first (c : Dev nD) (t : Fin cfg1.N) (ht : t.val = 0) :
    edgeSum V c t.val t.isLt = k1_pay1 (edgeBlk V c 0 t) (edgeBlk V c 1 t) := by
  obtain ⟨n, hn⟩ := t; obtain rfl : n = 0 := ht; rfl

/-- The sum at a later point, from the sum at the point before. -/
theorem edgeSum_later (c : Dev nD) (t : Fin cfg1.N) (ht : t.val ≠ 0) :
    edgeSum V c t.val t.isLt = k1_pay2 (edgeBlk V c 0 t) (edgeBlk V c 1 t)
      (edgeSum V c (t.val - 1) (Nat.lt_of_le_of_lt (Nat.sub_le _ _) t.isLt)) := by
  obtain ⟨n, hn⟩ := t
  cases n with
  | zero => exact absurd rfl ht
  | succ n => rfl

/-! ## The body's obligation -/

/-- What the body is called with at point `t`, window by window. -/
def edgePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns, window by window. -/
def edgePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: its first form at the first point, its second at the others. -/
theorem edge_sound (c : Dev nD) (t : Fin cfg1.N) :
    edgePre V c t ⊢ wp frame (wpE (defs₀ (F := F)) Variants.none c none) Set.univ (bodyAt1 t)
      (fun _ => edgePost V c t) := by
  unfold edgePre edgePost bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  by_cases ht : t.val = 0
  · rw [edgeSum_first V c t ht]
    iintro ⟨HΦ, Ho, ⟨%d0, H0⟩, ⟨%d1, H1⟩, ⟨%d2, H2⟩⟩
    iapply (edge_body_first c Set.univ (grid1.coords t) _ _ _ _ _ _ (edgeBlk V c 0 t) (edgeBlk V c 1 t)
      ((edge_first t).mpr ht) (fun h => (edge_later t).mp h ht))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [edgeSum_later V c t ht]
    simp only [dat1_before2 V c t ht]
    iintro ⟨HΦ, Ho, ⟨%d0, H0⟩, ⟨%d1, H1⟩, ⟨%d2, H2⟩⟩
    iapply (edge_body_later c Set.univ (grid1.coords t) _ _ _ _ _ _ (edgeBlk V c 0 t) (edgeBlk V c 1 t)
      (fun h => ht ((edge_first t).mp h)) ((edge_later t).mpr ht) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t` is the body as called there. -/
theorem edge_row (t : Fin cfg1.N) : defs₀ (F := F) .tc cfg1.body (cfg1.bodyArgs t (cfg1.slots t)) = bodyAt1 t := by
  unfold defs₀; rw [Defs.onTc_tc]

/-- The obligation the pipeline asks of the body, at every point. -/
theorem edge_obligation (c : Dev nD) : BodyObligation (dat1 (F := F) V c) (defs₀ (F := F)) Variants.none () Set.univ :=
  fun t => by
    rw [bigSep_W1, bigSep_W1, edge_row, show cfg1.idle 2 (cfg1.grid.coords t) = false from edge_live _]
    exact triple_restated (edge_sound V c t) rfl .rfl fun _ => .rfl

end Data

end Cert.KernelIdeal.Hand

end
-- ==== Proof.Hand.Mlp.lean ====
/-
  The third pallas_call of @main: the two-layer perceptron and the layer norm, one grid point, over any float semantics
  `F` and any contents `V` of the buffers at its entry. The body stores the output block once, at `mlpOut` of the blocks
  it reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The body -/

/-- Rows `0 ‥ 127` of the first weight matrix: those that meet the graph features. -/
def w1Graph (w : Vec F S384x256 .f32) : Vec F S128x256 .f32 :=
  View.ld w (Rect.unit (s := S384x256) ![0, 0] S128x256.size inb_S384x256_S128x256_0_0)

/-- Rows `128 ‥ 255` of the first weight matrix: those that meet the node sums. -/
def w1Node (w : Vec F S384x256 .f32) : Vec F S128x256 .f32 :=
  View.ld w (Rect.unit (s := S384x256) ![128, 0] S128x256.size inb_S384x256_S128x256_128_0)

/-- Rows `256 ‥ 383` of the first weight matrix: those that meet the edge sums. -/
def w1Edge (w : Vec F S384x256 .f32) : Vec F S128x256 .f32 :=
  View.ld w (Rect.unit (s := S384x256) ![256, 0] S128x256.size inb_S384x256_S128x256_256_0)

/-- What the body stores: `x0` the graph features, `x1` the node sums, `x2` the edge sums, `x3` and `x4` the first layer's
    weights and bias, `x5` and `x6` the second layer's, `x7` the scale and `x8` the shift. -/
def mlpOut (x0 x1 x2 : Vec F S16x128 .f32) (x3 : Vec F S384x256 .f32) (x4 : Vec F S1x256 .f32) (x5 : Vec F S256x128 .f32)
    (x6 x7 x8 : Vec F S1x128 .f32) : Vec F S16x128 .f32 :=
  k2_pay1 (k2_pay2 x0 (w1Graph x3) x1 (w1Node x3) x2 (w1Edge x3) x4 x5 x6)
    (k2_pay3 x0 (w1Graph x3) x1 (w1Node x3) x2 (w1Edge x3) x4 x5 x6) x7 x8

/-- The same value with each operand spelt as the load that reads it: a load of a whole block reads the block. -/
theorem mlpOut_loads (x0 x1 x2 : Vec F S16x128 .f32) (x3 : Vec F S384x256 .f32) (x4 : Vec F S1x256 .f32)
    (x5 : Vec F S256x128 .f32) (x6 x7 x8 : Vec F S1x128 .f32) :
    mlpOut x0 x1 x2 x3 x4 x5 x6 x7 x8 = mlpOut
      (View.ld x0 (Rect.unit (s := S16x128) ![0, 0] S16x128.size inb_S16x128_S16x128_0_0))
      (View.ld x1 (Rect.unit (s := S16x128) ![0, 0] S16x128.size inb_S16x128_S16x128_0_0))
      (View.ld x2 (Rect.unit (s := S16x128) ![0, 0] S16x128.size inb_S16x128_S16x128_0_0)) x3
      (View.ld x4 (Rect.unit (s := S1x256) ![0, 0] S1x256.size inb_S1x256_S1x256_0_0))
      (View.ld x5 (Rect.unit (s := S256x128) ![0, 0] S256x128.size inb_S256x128_S256x128_0_0))
      (View.ld x6 (Rect.unit (s := S1x128) ![0, 0] S1x128.size inb_S1x128_S1x128_0_0))
      (View.ld x7 (Rect.unit (s := S1x128) ![0, 0] S1x128.size inb_S1x128_S1x128_0_0))
      (View.ld x8 (Rect.unit (s := S1x128) ![0, 0] S1x128.size inb_S1x128_S1x128_0_0)) := by
  have hz : (![0, 0] : Fin 2 → ℕ) = fun _ => 0 := by decide
  rw [View.ld_unit_zero hz, View.ld_unit_zero hz, View.ld_unit_zero hz, View.ld_unit_zero hz, View.ld_unit_zero hz,
    View.ld_unit_zero hz, View.ld_unit_zero hz, View.ld_unit_zero hz]

/-- The body leaves `mlpOut` of the inputs in the output block, whatever the block held. -/
theorem mlp_body (c : Dev nD) (E : Set ℕ)
    (a0 : Memref sig .tc .vmem S16x128 .f32) (h0 : a0.IsWhole)
    (a1 : Memref sig .tc .vmem S16x128 .f32) (h1 : a1.IsWhole)
    (a2 : Memref sig .tc .vmem S16x128 .f32) (h2 : a2.IsWhole)
    (a3 : Memref sig .tc .vmem S384x256 .f32) (h3 : a3.IsWhole)
    (a4 : Memref sig .tc .vmem S1x256 .f32) (h4 : a4.IsWhole)
    (a5 : Memref sig .tc .vmem S256x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x128 .f32) (h8 : a8.IsWhole)
    (a9 : Memref sig .tc .vmem S16x128 .f32) (h9 : a9.IsWhole)
    (x0 x1 x2 : Vec F S16x128 .f32) (x3 : Vec F S384x256 .f32) (x4 : Vec F S1x256 .f32) (x5 : Vec F S256x128 .f32)
    (x6 x7 x8 : Vec F S1x128 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ (∃ d, owns (c : Thread nD τ) a9 fullShare d)
        ∗ (iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare (mlpOut x0 x1 x2 x3 x4 x5 x6 x7 x8)) -∗ K ⟨⟩))
      ⊢ wp frame (wpE (defs₀ (F := F)) Variants.none c none) E
        (cc2__mlp_body a0 h0 a1 h1 a2 h2 a3 h3 a4 h4 a5 h5 a6 h6 a7 h7 a8 h8 a9 h9) K := by
  simp only [cc2__mlp_body_eq_skeleton]; unfold cc2__mlp_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  iexists _; isplitr
  swap; · iexact H9
  ipureintro
  subst hf0 hf1 hf2 hf3 hf4 hf5 hf6 hf7 hf8
  rw [View.read_writes_full, mlpOut_loads]
  rfl

/-! ## The region's proof data -/

section Data

variable (V : (c : Dev nD) → (b : Ref sig .tc) → Buf (Elt F) ((c : Thread nD τ).loc b))

/-- Window `w`'s block at point `t`, of the array as the region finds it. -/
def mlpBlk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- What the body leaves in the output block at point `t`. -/
def mlpRes (c : Dev nD) (t : Fin cfg2.N) : Vec F S16x128 .f32 :=
  mlpOut (mlpBlk V c 0 t) (mlpBlk V c 1 t) (mlpBlk V c 2 t) (mlpBlk V c 3 t) (mlpBlk V c 4 t) (mlpBlk V c 5 t) (mlpBlk V c 6 t) (mlpBlk V c 7 t) (mlpBlk V c 8 t)

/-- The proof data of the third pallas_call: the arrays as it finds them; after the body the inputs' buffers at their
    blocks and the output's at `mlpRes`. -/
def dat2 (c : Dev nD) : Dat τ (Elt F) Unit ℕ (UR sig nD τ) ℕ cfg2 c where
  A w := V c (Pipeline.arrRef spec2 w)
  after w t := match w with
    | ⟨0, _⟩ => mlpBlk V c 0 t
    | ⟨1, _⟩ => mlpBlk V c 1 t
    | ⟨2, _⟩ => mlpBlk V c 2 t
    | ⟨3, _⟩ => mlpBlk V c 3 t
    | ⟨4, _⟩ => mlpBlk V c 4 t
    | ⟨5, _⟩ => mlpBlk V c 5 t
    | ⟨6, _⟩ => mlpBlk V c 6 t
    | ⟨7, _⟩ => mlpBlk V c 7 t
    | ⟨8, _⟩ => mlpBlk V c 8 t
    | ⟨9, _⟩ => mlpRes V c t
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after0 (c : Dev nD) (t : Fin cfg2.N) : (dat2 V c).after 0 t = mlpBlk V c 0 t := by dsimp only [dat2]
theorem dat2_after1 (c : Dev nD) (t : Fin cfg2.N) : (dat2 V c).after 1 t = mlpBlk V c 1 t := by dsimp only [dat2]
theorem dat2_after2 (c : Dev nD) (t : Fin cfg2.N) : (dat2 V c).after 2 t = mlpBlk V c 2 t := by dsimp only [dat2]
theorem dat2_after3 (c : Dev nD) (t : Fin cfg2.N) : (dat2 V c).after 3 t = mlpBlk V c 3 t := by dsimp only [dat2]
theorem dat2_after4 (c : Dev nD) (t : Fin cfg2.N) : (dat2 V c).after 4 t = mlpBlk V c 4 t := by dsimp only [dat2]
theorem dat2_after5 (c : Dev nD) (t : Fin cfg2.N) : (dat2 V c).after 5 t = mlpBlk V c 5 t := by dsimp only [dat2]
theorem dat2_after6 (c : Dev nD) (t : Fin cfg2.N) : (dat2 V c).after 6 t = mlpBlk V c 6 t := by dsimp only [dat2]
theorem dat2_after7 (c : Dev nD) (t : Fin cfg2.N) : (dat2 V c).after 7 t = mlpBlk V c 7 t := by dsimp only [dat2]
theorem dat2_after8 (c : Dev nD) (t : Fin cfg2.N) : (dat2 V c).after 8 t = mlpBlk V c 8 t := by dsimp only [dat2]
theorem dat2_after9 (c : Dev nD) (t : Fin cfg2.N) : (dat2 V c).after 9 t = mlpRes V c t := by dsimp only [dat2]

/-! Each input's buffer holds its block at the point. -/

theorem dat2_before0 (c : Dev nD) (t : Fin cfg2.N) (d) : (dat2 V c).before 0 t d = mlpBlk V c 0 t :=
  ((dat2 V c).before_in_eq_fetched 0 rfl (fun _ => rfl) (fun _ _ _ => rfl)
    (fun t => by rw [dat2_after0]; unfold Dat.blockOf mlpBlk; rw [dat2_A]) t d).trans
    (by unfold Dat.fetched Dat.blockOf mlpBlk; rw [dat2_A]; rfl)
theorem dat2_before1 (c : Dev nD) (t : Fin cfg2.N) (d) : (dat2 V c).before 1 t d = mlpBlk V c 1 t :=
  ((dat2 V c).before_in_eq_fetched 1 rfl (fun _ => rfl) (fun _ _ _ => rfl)
    (fun t => by rw [dat2_after1]; unfold Dat.blockOf mlpBlk; rw [dat2_A]) t d).trans
    (by unfold Dat.fetched Dat.blockOf mlpBlk; rw [dat2_A]; rfl)
theorem dat2_before2 (c : Dev nD) (t : Fin cfg2.N) (d) : (dat2 V c).before 2 t d = mlpBlk V c 2 t :=
  ((dat2 V c).before_in_eq_fetched 2 rfl (fun _ => rfl) (fun _ _ _ => rfl)
    (fun t => by rw [dat2_after2]; unfold Dat.blockOf mlpBlk; rw [dat2_A]) t d).trans
    (by unfold Dat.fetched Dat.blockOf mlpBlk; rw [dat2_A]; rfl)
theorem dat2_before3 (c : Dev nD) (t : Fin cfg2.N) (d) : (dat2 V c).before 3 t d = mlpBlk V c 3 t :=
  ((dat2 V c).before_in_eq_fetched 3 rfl (fun _ => rfl) (fun _ _ _ => rfl)
    (fun t => by rw [dat2_after3]; unfold Dat.blockOf mlpBlk; rw [dat2_A]) t d).trans
    (by unfold Dat.fetched Dat.blockOf mlpBlk; rw [dat2_A]; rfl)
theorem dat2_before4 (c : Dev nD) (t : Fin cfg2.N) (d) : (dat2 V c).before 4 t d = mlpBlk V c 4 t :=
  ((dat2 V c).before_in_eq_fetched 4 rfl (fun _ => rfl) (fun _ _ _ => rfl)
    (fun t => by rw [dat2_after4]; unfold Dat.blockOf mlpBlk; rw [dat2_A]) t d).trans
    (by unfold Dat.fetched Dat.blockOf mlpBlk; rw [dat2_A]; rfl)
theorem dat2_before5 (c : Dev nD) (t : Fin cfg2.N) (d) : (dat2 V c).before 5 t d = mlpBlk V c 5 t :=
  ((dat2 V c).before_in_eq_fetched 5 rfl (fun _ => rfl) (fun _ _ _ => rfl)
    (fun t => by rw [dat2_after5]; unfold Dat.blockOf mlpBlk; rw [dat2_A]) t d).trans
    (by unfold Dat.fetched Dat.blockOf mlpBlk; rw [dat2_A]; rfl)
theorem dat2_before6 (c : Dev nD) (t : Fin cfg2.N) (d) : (dat2 V c).before 6 t d = mlpBlk V c 6 t :=
  ((dat2 V c).before_in_eq_fetched 6 rfl (fun _ => rfl) (fun _ _ _ => rfl)
    (fun t => by rw [dat2_after6]; unfold Dat.blockOf mlpBlk; rw [dat2_A]) t d).trans
    (by unfold Dat.fetched Dat.blockOf mlpBlk; rw [dat2_A]; rfl)
theorem dat2_before7 (c : Dev nD) (t : Fin cfg2.N) (d) : (dat2 V c).before 7 t d = mlpBlk V c 7 t :=
  ((dat2 V c).before_in_eq_fetched 7 rfl (fun _ => rfl) (fun _ _ _ => rfl)
    (fun t => by rw [dat2_after7]; unfold Dat.blockOf mlpBlk; rw [dat2_A]) t d).trans
    (by unfold Dat.fetched Dat.blockOf mlpBlk; rw [dat2_A]; rfl)
theorem dat2_before8 (c : Dev nD) (t : Fin cfg2.N) (d) : (dat2 V c).before 8 t d = mlpBlk V c 8 t :=
  ((dat2 V c).before_in_eq_fetched 8 rfl (fun _ => rfl) (fun _ _ _ => rfl)
    (fun t => by rw [dat2_after8]; unfold Dat.blockOf mlpBlk; rw [dat2_A]) t d).trans
    (by unfold Dat.fetched Dat.blockOf mlpBlk; rw [dat2_A]; rfl)

/-! ## The body's obligation -/

/-- What the body is called with at point `t`, window by window. -/
def mlpPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What it returns, window by window. -/
def mlpPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at the point. -/
theorem mlp_sound (c : Dev nD) (t : Fin cfg2.N) :
    mlpPre V c t ⊢ wp frame (wpE (defs₀ (F := F)) Variants.none c none) Set.univ (bodyAt2 t)
      (fun _ => mlpPost V c t) := by
  unfold mlpPre mlpPost bodyAt2
  simp only [dat2_before0, dat2_before1, dat2_before2, dat2_before3, dat2_before4, dat2_before5, dat2_before6, dat2_before7, dat2_before8]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5, dat2_after6, dat2_after7, dat2_after8, dat2_after9]
  unfold mlpRes
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (mlp_body c Set.univ _ _ _ _ _ _ _ _ _ _ _ _ _ _ _ _ _ _ _ _
    (mlpBlk V c 0 t) (mlpBlk V c 1 t) (mlpBlk V c 2 t) (mlpBlk V c 3 t) (mlpBlk V c 4 t) (mlpBlk V c 5 t) (mlpBlk V c 6 t) (mlpBlk V c 7 t) (mlpBlk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body as called there. -/
theorem mlp_row (t : Fin cfg2.N) : defs₀ (F := F) .tc cfg2.body (cfg2.bodyArgs t (cfg2.slots t)) = bodyAt2 t := by
  unfold defs₀; rw [Defs.onTc_tc]

/-- The obligation the pipeline asks of the body, at the point. -/
theorem mlp_obligation (c : Dev nD) : BodyObligation (dat2 (F := F) V c) (defs₀ (F := F)) Variants.none () Set.univ :=
  fun t => by
    rw [bigSep_W2, bigSep_W2, mlp_row]
    exact triple_restated (mlp_sound V c t) rfl .rfl fun _ => .rfl

end Data

end Cert.KernelIdeal.Hand

end
-- ==== Proof.Hand.Run.lean ====
/-
  The whole run of @main over any float semantics: the contents of the unscoped buffers between its items, each
  pallas_call as a segment between two of them, and the launch. `run_main` names what every unscoped buffer holds at
  the end.
-/
module

public import proofs.«01_k».proof.Proof.Gen.KernelIdeal.Regions
public import proofs.«01_k».proof.Proof.Hand.Nodes
public import proofs.«01_k».proof.Proof.Hand.Edges
public import proofs.«01_k».proof.Proof.Hand.Mlp
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The buffers between the items -/

/-- A valuation read at the TensorCore's references. -/
abbrev atTc (B : Dev nD → Valuation τ sig (Elt F)) (c : Dev nD) (b : Ref sig .tc) : Buf (Elt F) ((c : Thread nD τ).loc b) :=
  B c b

/-- At launch. -/
abbrev B0 : Dev nD → Valuation τ sig (Elt F) := fun c b => m (c, b)
/-- After the host operations that pad the nodes and shape their ids: the first pallas_call's entry. -/
abbrev B1 : Dev nD → Valuation τ sig (Elt F) := fun c => StableHlo.after hostOps0 (B0 m c)
/-- After the first pallas_call: its arrays at what its write-backs leave, the rest as before. -/
def B2 : Dev nD → Valuation τ sig (Elt F) := fun c =>
  Pipeline.withArrays spec0 c (B1 m c) fun w => (dat0 (atTc (B1 m)) c).arrAt w cfg0.N
/-- After the host operation that shapes the edges' ids: the second pallas_call's entry. -/
abbrev B3 : Dev nD → Valuation τ sig (Elt F) := fun c => StableHlo.after hostOps1 (B2 m c)
/-- After the second pallas_call. -/
def B4 : Dev nD → Valuation τ sig (Elt F) := fun c =>
  Pipeline.withArrays spec1 c (B3 m c) fun w => (dat1 (atTc (B3 m)) c).arrAt w cfg1.N
/-- After the host operations that shape the biases, the scale and the shift: the third pallas_call's entry. -/
abbrev B5 : Dev nD → Valuation τ sig (Elt F) := fun c => StableHlo.after hostOps2 (B4 m c)
/-- After the third pallas_call: the end. -/
def B6 : Dev nD → Valuation τ sig (Elt F) := fun c =>
  Pipeline.withArrays spec2 c (B5 m c) fun w => (dat2 (atTc (B5 m)) c).arrAt w cfg2.N

theorem B2_arr (c : Dev nD) (w : Fin cfg0.W) :
    B2 m c (Proc.devRef .tc (Pipeline.arrRef spec0 w)) = (dat0 (atTc (B1 m)) c).arrAt w cfg0.N := by
  unfold B2; exact Pipeline.withArrays_arr spec0 launch0.win.arr_inj c _ _ w
theorem B4_arr (c : Dev nD) (w : Fin cfg1.W) :
    B4 m c (Proc.devRef .tc (Pipeline.arrRef spec1 w)) = (dat1 (atTc (B3 m)) c).arrAt w cfg1.N := by
  unfold B4; exact Pipeline.withArrays_arr spec1 launch1.win.arr_inj c _ _ w
theorem B6_arr (c : Dev nD) (w : Fin cfg2.W) :
    B6 m c (Proc.devRef .tc (Pipeline.arrRef spec2 w)) = (dat2 (atTc (B5 m)) c).arrAt w cfg2.N := by
  unfold B6; exact Pipeline.withArrays_arr spec2 launch2.win.arr_inj c _ _ w

theorem B2_off (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_off (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem B6_off (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb

/-- A buffer that is no output of the first pallas_call is left by it as it was. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((dat0 (atTc (B1 m)) c).arrAt_in w (h w rfl) _).trans (dat0_A _ c w))
  · exact B2_off m c r fun w e => hw ⟨w, e⟩
/-- The same of the second pallas_call. -/
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((dat1 (atTc (B3 m)) c).arrAt_in w (h w rfl) _).trans (dat1_A _ c w))
  · exact B4_off m c r fun w e => hw ⟨w, e⟩
/-- The same of the third pallas_call. -/
theorem B6_of (c : Dev nD) (r : Ref sig .tc) (h : ∀ w : Fin cfg2.W, Pipeline.arrRef spec2 w = r → (cfg2.win w).isOut = false) :
    B6 m c (Proc.devRef .tc r) = B5 m c (Proc.devRef .tc r) := by
  by_cases hw : ∃ w : Fin cfg2.W, Pipeline.arrRef spec2 w = r
  · obtain ⟨w, rfl⟩ := hw
    exact (B6_arr m c w).trans (((dat2 (atTc (B5 m)) c).arrAt_in w (h w rfl) _).trans (dat2_A _ c w))
  · exact B6_off m c r fun w e => hw ⟨w, e⟩

/-- A buffer the host operations before the first pallas_call do not write. -/
theorem B1_of (c : Dev nD) (r : Ref sig .tc) (h : r ∉ hostOps0_W) :
    B1 m c (Proc.devRef .tc r) = m ((c : Thread nD τ).loc r) :=
  StableHlo.after_of_writes_sub hostOps0 _ hostOps0_writes h
theorem B3_of (c : Dev nD) (r : Ref sig .tc) (h : r ∉ hostOps1_W) :
    B3 m c (Proc.devRef .tc r) = B2 m c (Proc.devRef .tc r) :=
  StableHlo.after_of_writes_sub hostOps1 _ hostOps1_writes h
theorem B5_of (c : Dev nD) (r : Ref sig .tc) (h : r ∉ hostOps2_W) :
    B5 m c (Proc.devRef .tc r) = B4 m c (Proc.devRef .tc r) :=
  StableHlo.after_of_writes_sub hostOps2 _ hostOps2_writes h

/-- A buffer no item up to the second pallas_call's entry writes. -/
def Still3 (r : Ref sig .tc) : Prop :=
  r ∉ hostOps0_W ∧ (∀ w : Fin cfg0.W, Pipeline.arrRef spec0 w = r → (cfg0.win w).isOut = false) ∧ r ∉ hostOps1_W
/-- A buffer no item up to the third pallas_call's entry writes. -/
def Still5 (r : Ref sig .tc) : Prop :=
  Still3 r ∧ (∀ w : Fin cfg1.W, Pipeline.arrRef spec1 w = r → (cfg1.win w).isOut = false) ∧ r ∉ hostOps2_W
/-- A buffer no item writes. -/
def Still6 (r : Ref sig .tc) : Prop :=
  Still5 r ∧ ∀ w : Fin cfg2.W, Pipeline.arrRef spec2 w = r → (cfg2.win w).isOut = false

instance (r : Ref sig .tc) : Decidable (Still3 r) := by unfold Still3; infer_instance
instance (r : Ref sig .tc) : Decidable (Still5 r) := by unfold Still5; infer_instance
instance (r : Ref sig .tc) : Decidable (Still6 r) := by unfold Still6; infer_instance

theorem B3_still (c : Dev nD) (r : Ref sig .tc) (h : Still3 r) :
    B3 m c (Proc.devRef .tc r) = m ((c : Thread nD τ).loc r) :=
  (B3_of m c r h.2.2).trans ((B2_of m c r h.2.1).trans (B1_of m c r h.1))
theorem B5_still (c : Dev nD) (r : Ref sig .tc) (h : Still5 r) :
    B5 m c (Proc.devRef .tc r) = m ((c : Thread nD τ).loc r) :=
  (B5_of m c r h.2.2).trans ((B4_of m c r h.2.1).trans (B3_still m c r h.1))
theorem B6_still (c : Dev nD) (r : Ref sig .tc) (h : Still6 r) :
    B6 m c (Proc.devRef .tc r) = m ((c : Thread nD τ).loc r) :=
  (B6_of m c r h.2).trans (B5_still m c r h.1)

/-! ## The pallas_calls as segments -/

/-- The three pallas_calls' proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (atTc (B1 m)) c
  | ⟨1, _⟩ => fun c => dat1 (atTc (B3 m)) c
  | ⟨2, _⟩ => fun c => dat2 (atTc (B5 m)) c

/-- No core owes another anything, so no semaphore has a level. -/
abbrev noDues : GSem nD τ sig → Finset Unit := fun _ => ∅
abbrev levels : GSem nD τ sig → Unit → ℕ := fun _ _ => 0

/-- What rides beside the buffers: the core's generator register at some state, and that it owes nothing. -/
abbrev Rest (c : Dev nD) : sProp 𝕄 :=
  iprop((∃ r, prngReg c r) ∗ ∃ W, owes (c : Thread nD τ) (0 : CellTallies nD τ sig Unit) W)

/-- Between two items: every unscoped buffer at the contents `B`, and the rest. -/
abbrev Between (B : Dev nD → Valuation τ sig (Elt F)) (c : Dev nD) : sProp 𝕄 :=
  iprop(StableHlo.held (c : Thread nD τ) (Pipeline.ucRefs τ sig) (B c) ∗ Rest c)

set_option backward.isDefEq.respectTransparency.types false in
/-- A pallas_call as a segment from the contents `B` to the contents `B'`, given its body's obligation, that `B` is what its
    proof data enter with and that `B'` is what its write-backs leave in its arrays and `B` elsewhere. -/
def call (p : Fin 3) (kit : Pipeline.LaunchFacts (nD := nD) (τ := τ) cfgs p)
    (B B' : Dev nD → Valuation τ sig (Elt F))
    (hbody : ∀ c, BodyObligation (pdats m p c) (defs₀ (F := F)) Variants.none () Set.univ)
    (hΦ : ∀ c t, (pdats m p c).Φ t = Pipeline.ΦA (cfgs p).spec c)
    (hq : ∀ c w, (pdats m p c).q w = fullShare)
    (howed : ∀ c t, (pdats m p c).owed t = 0)
    (hrec : ∀ c, (pdats m p c).recorded 0 = Set.univ)
    (hA : ∀ c w, (pdats m p c).A w = atTc B c (Pipeline.arrRef (cfgs p).spec w))
    (hF : ∀ c w, (pdats m p c).arrAt w (cfgs p).N = atTc B' c (Pipeline.arrRef (cfgs p).spec w))
    (hoff : ∀ c b, b ∉ Finset.univ.image (Pipeline.arrRef (cfgs p).spec) → atTc B' c b = atTc B c b) :
    Pipeline.RegionSeg (pcfgs (F := F)) adm (pdats m) () defs₀ Variants.none noDues levels p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noDues levels p howed
  pre := Between B
  post := Between B'
  X c := iprop(∃ r, prngReg c r)
  Y c := iprop(∃ r, prngReg c r)
  Z c := Pipeline.unscopedRest (Ix := Unit) (Name := ℕ) (U := UR sig nD τ) (Lvl := ℕ) (cfgs p).spec c (atTc B c)
  hentry c := by
    rw [Pipeline.ownSems0_none]
    have hsplit := Pipeline.arrays_of_unscopedBufs (p := p) (pcfgs (F := F)) adm (pdats m) kit.win kit.arr_whole c
      ((pdats m p c).share_full (hq c)) (atTc B c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (atTc B c) (atTc B' c) ((pdats m p c).arrAt · (cfgs p).N) (hF c) (hoff c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The first pallas_call. -/
def call0 : Pipeline.RegionSeg (pcfgs (F := F)) adm (pdats m) () defs₀ Variants.none noDues levels 0 :=
  call m 0 launch0 (B1 m) (B2 m) (fun c => node_obligation _ c) (fun _ _ => rfl) (fun _ _ => rfl) (fun _ _ => rfl)
    (fun _ => rfl) (fun c w => dat0_A _ c w) (fun c w => (B2_arr m c w).symm)
    (fun c b hb => B2_off m c b fun w e => hb (Finset.mem_image.mpr ⟨w, Finset.mem_univ _, e⟩))
/-- The second pallas_call. -/
def call1 : Pipeline.RegionSeg (pcfgs (F := F)) adm (pdats m) () defs₀ Variants.none noDues levels 1 :=
  call m 1 launch1 (B3 m) (B4 m) (fun c => edge_obligation _ c) (fun _ _ => rfl) (fun _ _ => rfl) (fun _ _ => rfl)
    (fun _ => rfl) (fun c w => dat1_A _ c w) (fun c w => (B4_arr m c w).symm)
    (fun c b hb => B4_off m c b fun w e => hb (Finset.mem_image.mpr ⟨w, Finset.mem_univ _, e⟩))
/-- The third pallas_call. -/
def call2 : Pipeline.RegionSeg (pcfgs (F := F)) adm (pdats m) () defs₀ Variants.none noDues levels 2 :=
  call m 2 launch2 (B5 m) (B6 m) (fun c => mlp_obligation _ c) (fun _ _ => rfl) (fun _ _ => rfl) (fun _ _ => rfl)
    (fun _ => rfl) (fun c w => dat2_A _ c w) (fun c w => (B6_arr m c w).symm)
    (fun c b hb => B6_off m c b fun w e => hb (Finset.mem_image.mpr ⟨w, Finset.mem_univ _, e⟩))

/-- A stretch of host operations as a segment from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ Variants.none noDues levels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Rest

/-- @main's items in order. -/
abbrev items : List (Pipeline.Seg (pcfgs (F := F)) adm (pdats m) () defs₀ Variants.none noDues levels) :=
  [ .host (stretch hostOps0 hostOps0_sub hostOps0_fresh (B0 m)),
    .region (call0 m),
    .host (stretch hostOps1 hostOps1_sub hostOps1_fresh (B2 m)),
    .region (call1 m),
    .host (stretch hostOps2 hostOps2_sub hostOps2_fresh (B4 m)),
    .region (call2 m) ]

/-- @main runs its items. -/
theorem main_items (c : Dev nD) : main (F := F) c = Pipeline.Seg.run (items m) := (main_chain c).trans (by chain_rfl)

/-! ## The run -/

set_option backward.isDefEq.respectTransparency.types false in
/-- From any memory with zero counters every fair execution of @main ends, without a fault, with every unscoped buffer at
    the contents `B6` and every semaphore counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = B6 m c b)
      ∧ r.2.sem = fun _ => 0) :=
  Pipeline.θ_run_regions_kit_sems (pcfgs (F := F)) adm (pdats m) () cellOf_inj emb₁ defs₀ Variants.none noDues levels m ρ
    main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := Between (B0 m))
    (Tₙ := fun c => iprop(StableHlo.held (c : Thread nD τ) (Pipeline.ucRefs τ sig) (B6 m c) ∗ ∃ r, prngReg c r))
    (hch := ⟨fun _ => .rfl, fun _ => .rfl, fun _ => .rfl, fun _ => .rfl, fun _ => .rfl, fun _ => .rfl, fun c => by
      show Between (B6 m) c ⊢ _
      iintro ⟨Hh, Hp, HO⟩
      isplitl [Hh Hp]
      · isplitl [Hh]; · iexact Hh
        iexact Hp
      iexact HO⟩)
    (hinit := by
      refine Pipeline.initEach noDues levels fun c => ?_
      rw [show unscopedBufs c (fun b => m ((c : Thread nD τ).loc b))
        = StableHlo.held (c : Thread nD τ) (Pipeline.ucRefs τ sig) (B0 m c) from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = B6 m c b)
    (hfin := fun c s' => by
      iintro ⟨⟨Hh, -⟩, HSI⟩
      unfold StableHlo.held
      imodintro
      iapply (pointsTo_read_all (Pipeline.ucRefs τ sig) (fun b => ((c : Thread nD τ).1, b)) (B6 m c) s')
      isplitl [Hh] <;> iassumption)
    (hQ := fun s h hz => ⟨h, funext fun g => hz g (.inr (regions_no_unscoped g.2))⟩)

/-- An unscoped reference of the TensorCore is among the buffers the run names. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The run, read at the result and at the arguments: the result is what `B6` holds there, and the arguments are as
    launched. -/
theorem run_result (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = (fun _ => 0)
      ∧ ∀ c : Dev nD, r.2.mem ((c.tc : Thread nD τ).loc main_v14) = (dat2 (atTc (B5 m)) c).arrAt 9 cfg2.N) :=
  (θ_run defs _ _).mono (fun r h => by
    have arg (c : Dev nD) (b : Ref sig .tc) (hu : ¬ (Proc.devRef .tc b : DevRef τ sig).isScoped) (hs : Still6 b) :
        r.2.mem ((c.tc : Thread nD τ).loc b) = m ((c.tc : Thread nD τ).loc b) :=
      (h.1 c _ (mem_unscoped b hu)).trans (B6_still m c b hs)
    refine ⟨fun c => ⟨arg c main_arg0 (by decide) (by decide), arg c main_arg1 (by decide) (by decide),
      arg c main_arg2 (by decide) (by decide), arg c main_arg3 (by decide) (by decide),
      arg c main_arg4 (by decide) (by decide), arg c main_arg5 (by decide) (by decide),
      arg c main_arg6 (by decide) (by decide), arg c main_arg7 (by decide) (by decide),
      arg c main_arg8 (by decide) (by decide), arg c main_arg9 (by decide) (by decide),
      arg c main_arg10 (by decide) (by decide)⟩, h.2, fun c => ?_⟩
    exact (h.1 c _ (mem_unscoped main_v14 (by decide))).trans (B6_arr m c 9)) (run_main m ρ)

end Cert.KernelIdeal.Hand

end
-- ==== Proof.Hand.SegSum.lean ====
/-
  Sums of rows by segment id at exact values, at any number of rows: what one block of the kernel computes with a
  one-hot matrix, what the reference computes with an accumulating scatter, and what padding rows with zeros leaves.
  Everything is stated with `hit s id v`: the value `v` where the id is `s`, zero elsewhere.
-/
module

public import Idealize.ShloMosaic.PureOps
public import Idealize.ShloMosaic.Lib.MatmulPlain
public import Idealize.ShloMosaic.Lib.KernelVsHost
public import Idealize.ShloMosaic.Lib.IdealHost
public import Idealize.ShloMosaic.Lib.WordCmp
public import Idealize.ShloMosaic.Lib.Pipeline.Value
public import Idealize.ShloMosaic.Lib.Routing.OpsSet
public import Idealize.ShloMosaic.Lib.Routing.OpsPair

@[expose] public section

noncomputable section

namespace Cert.SegSum

open Idealize.ShloMosaic Idealize.ShloMosaic.ValueIdx Idealize.ShloMosaic.Routing

/-- What a row with id `id` and value `v` adds to segment `s`: `v` if the id is `s`, else zero. -/
def hit (s : Fin 16) (id : BitVec 32) (v : EReal) : EReal := if id = BitVec.ofNat 32 s.val then v else 0

theorem hit_zero (s : Fin 16) (id : BitVec 32) : hit s id 0 = 0 := ite_self _

/-- Read signed, an id is the segment `s` exactly when it is the word `s`. -/
theorem toInt_eq_iff (s : Fin 16) (id : BitVec 32) : id.toInt = (s.val : Int) ↔ id = BitVec.ofNat 32 s.val := by
  have hs := s.isLt
  constructor
  · intro h
    apply BitVec.eq_of_toInt_eq
    rw [h, StableHlo.Predicate.toInt_ofNat_small _ (by omega)]
  · rintro rfl
    exact StableHlo.Predicate.toInt_ofNat_small _ (by omega)

/-- One entry of the one-hot matrix times a value: the value where the id is the row's number, else zero. -/
theorem oneHot_mul (s : Fin 16) (id : BitVec 32) (v : EReal) (h : 1 < 32) :
    (FloatOps.sitofp .f32 ((IntOp.cmpi .eq (BitVec.ofNat 32 s.val) id).setWidth 32) : Ideal .f32) * v = hit s id v := by
  unfold hit
  show ((((IntOp.cmpi .eq (BitVec.ofNat 32 s.val) id).setWidth 32).toInt : ℝ) : EReal) * v = _
  by_cases e : id = BitVec.ofNat 32 s.val
  · subst e
    have : ((IntOp.cmpi .eq (BitVec.ofNat 32 s.val) (BitVec.ofNat 32 s.val)).setWidth 32).toInt = 1 := by
      simp [IntOp.cmpi]
    rw [this, if_pos rfl]; simp
  · have : ((IntOp.cmpi .eq (BitVec.ofNat 32 s.val) id).setWidth 32).toInt = 0 := by
      have e' : (BitVec.ofNat 32 s.val == id) = false := beq_eq_false_iff_ne.2 fun q => e q.symm
      simp [IntOp.cmpi, e']
    rw [this, if_neg e]; simp

/-- THE KERNEL'S BLOCK at segment `s` and column `c`: the one-hot matrix of `K` ids times `K` rows is the sum over the
    rows of what each adds to the segment. -/
theorem block_apply {K : ℕ} (D : DotDims ⟨2, ![16, K]⟩ ⟨2, ![K, 128]⟩ ⟨2, ![16, 128]⟩) (hD : D = DotDims.plain 16 K 128)
    (ids : IVec ⟨3, ![1, 1, K]⟩ 32) (rows : FVec Ideal ⟨2, ![K, 128]⟩ .f32)
    (hi : (⟨2, ![16, K]⟩ : Shape).Iotas .tc 32 [0]) (h1 : (⟨3, ![1, 1, K]⟩ : Shape).ShapeCasts ⟨1, ![K]⟩)
    (h2 : (⟨1, ![K]⟩ : Shape).ShapeCasts ⟨2, ![1, K]⟩) (hb : (⟨2, ![1, K]⟩ : Shape).Broadcasts ⟨2, ![16, K]⟩) (hlt : 1 < 32)
    (s : Fin 16) (c : Fin 128) :
    matmul D (some .fp32) (sitofp .f32 (extui 32 (cmpi .eq (iota .tc ⟨2, ![16, K]⟩ 32 [0] hi)
        (broadcastTo ⟨2, ![16, K]⟩ (shapeCast ⟨2, ![1, K]⟩ (shapeCast ⟨1, ![K]⟩ ids h1) h2) hb)) hlt) : FVec Ideal ⟨2, ![16, K]⟩ .f32)
      rows (constant ⟨2, ![16, 128]⟩ .f32 0x00000000#32) (ix2 s c)
      = ∑ k : Fin K, hit s (ids (ix3 (0 : Fin 1) (0 : Fin 1) k)) (rows (ix2 k c)) := by
  subst hD
  refine (Ideal.matmul_plain_apply _ _ _ _ s c).trans ?_
  have h0 : (constant ⟨2, ![16, 128]⟩ .f32 0x00000000#32 : FVec Ideal _ .f32) (ix2 s c) = 0 := Ideal.ofBits_zero_f32
  rw [h0, zero_add]
  refine Finset.sum_congr rfl fun k _ => ?_
  rw [← oneHot_mul s _ _ hlt]
  congr 1
  show (FloatOps.sitofp .f32 ((IntOp.cmpi .eq (iota .tc ⟨2, ![16, K]⟩ 32 [0] hi (ix2 s k)) (broadcastTo ⟨2, ![16, K]⟩
    (shapeCast ⟨2, ![1, K]⟩ (shapeCast ⟨1, ![K]⟩ ids h1) h2) hb (ix2 s k))).setWidth 32) : Ideal .f32) = _
  rw [iota_single_apply]
  congr 3
  have e1 := broadcastTo_apply (shapeCast ⟨2, ![1, K]⟩ (shapeCast ⟨1, ![K]⟩ ids h1) h2) hb (ix2 s k) (ix2 (0 : Fin 1) k) (by
    intro a
    match a with
    | ⟨0, _⟩ => rfl
    | ⟨1, _⟩ =>
      show k.val = if K = 1 then 0 else k.val
      split
      · have := k.isLt; omega
      · rfl)
  have e2 := shapeCast_apply (shapeCast ⟨1, ![K]⟩ ids h1) h2 (ix2 (0 : Fin 1) k) (ix1 k) (by
    rw [Shape.rowMajor_val_two, Shape.rowMajor_val_one]; show k.val = 0 * K + k.val; omega)
  have e3 := shapeCast_apply ids h1 (ix1 k) (ix3 (0 : Fin 1) (0 : Fin 1) k) (by
    rw [Shape.rowMajor_val_three, Shape.rowMajor_val_one]; show (0 * 1 + 0) * K + k.val = k.val; omega)
  exact e1.trans (e2.trans e3)

/-! ## The reference's accumulating scatter -/

/-- Update `(n, b)` of the reference's scatter lands at segment `s`, column `c` exactly when the row's id is `s` and the
    update's column is `c`. -/
theorem scatter_lands {N : ℕ} (d : ScatterDims ⟨2, ![16, 128]⟩ ⟨2, ![N, 1]⟩ ⟨2, ![N, 128]⟩) (huw : d.updateWindowDims = [1])
    (hiw : d.insertedWindowDims = [0]) (hsd : d.scatterDimsToOperandDims = [0]) (hiv : d.indexVectorDim = 1)
    (idx : IVec ⟨2, ![N, 1]⟩ 32) (n : Fin N) (b : Fin 128) (s : Fin 16) (c : Fin 128) :
    d.resultIdx? (ix2 n b) idx = some (ix2 s c) ↔ idx (ix2 n (0 : Fin 1)) = BitVec.ofNat 32 s.val ∧ b = c := by
  obtain ⟨uw, iw, sd, iv, wf⟩ := d
  dsimp only at huw hiw hsd hiv
  subst huw hiw hsd hiv
  rw [resultIdx?_ix2, ← toInt_eq_iff]
  have w0 : ScatterDims.window (⟨[1], [0], [0], 1, wf⟩ : ScatterDims ⟨2, ![16, 128]⟩ ⟨2, ![N, 1]⟩ ⟨2, ![N, 128]⟩) (ix2 n b) 0 = 0 := rfl
  have w1 : ScatterDims.window (⟨[1], [0], [0], 1, wf⟩ : ScatterDims ⟨2, ![16, 128]⟩ ⟨2, ![N, 1]⟩ ⟨2, ![N, 128]⟩) (ix2 n b) 1 = b.val := rfl
  have s1 : ScatterDims.start (⟨[1], [0], [0], 1, wf⟩ : ScatterDims ⟨2, ![16, 128]⟩ ⟨2, ![N, 1]⟩ ⟨2, ![N, 128]⟩) (ix2 n b) idx 1 = 0 := rfl
  have s0 : ScatterDims.start (⟨[1], [0], [0], 1, wf⟩ : ScatterDims ⟨2, ![16, 128]⟩ ⟨2, ![N, 1]⟩ ⟨2, ![N, 128]⟩) (ix2 n b) idx 0
      = (idx (ix2 n (0 : Fin 1))).toInt := by
    unfold ScatterDims.start
    rw [dif_pos (List.mem_singleton.2 rfl)]
    congr 2
    funext a
    match a with
    | ⟨0, _⟩ => rfl
    | ⟨1, _⟩ => rfl
  rw [w0, w1, s1, s0, Fin.ext_iff]
  omega

/-- THE REFERENCE'S SEGMENT SUM at segment `s` and column `c`: the sum over all rows of what each adds to the segment. -/
theorem scatterAdd_apply {N : ℕ} (d : ScatterDims ⟨2, ![16, 128]⟩ ⟨2, ![N, 1]⟩ ⟨2, ![N, 128]⟩) (huw : d.updateWindowDims = [1])
    (hiw : d.insertedWindowDims = [0]) (hsd : d.scatterDimsToOperandDims = [0]) (hiv : d.indexVectorDim = 1)
    (hz : (⟨0, ![]⟩ : Shape).BroadcastsInDim ⟨2, ![16, 128]⟩ ![]) (hbc : (⟨1, ![N]⟩ : Shape).BroadcastsInDim ⟨2, ![N, 1]⟩ ![0])
    (ids : IVec ⟨1, ![N]⟩ 32) (x : FVec Ideal ⟨2, ![N, 128]⟩ .f32) (s : Fin 16) (c : Fin 128) :
    Host.scatterAdd d (broadcastInDim ⟨2, ![16, 128]⟩ ![] hz (constant ⟨0, ![]⟩ .f32 0x00000000#32))
      (broadcastInDim ⟨2, ![N, 1]⟩ ![0] hbc ids) x (ix2 s c)
      = ∑ n : Fin N, hit s (ids (ix1 n)) (x (ix2 n c)) := by
  show (constant ⟨0, ![]⟩ .f32 0x00000000#32 : FVec Ideal _ .f32) _
    + ∑ j ∈ Finset.univ.filter (fun j => d.resultIdx? j (broadcastInDim ⟨2, ![N, 1]⟩ ![0] hbc ids) = some (ix2 s c)), x j = _
  have h0 : ∀ i, (constant ⟨0, ![]⟩ .f32 0x00000000#32 : FVec Ideal _ .f32) i = 0 := fun _ => Ideal.ofBits_zero_f32
  rw [h0, zero_add, Finset.sum_filter, sum_idx2]
  refine Finset.sum_congr rfl fun n _ => ?_
  have hid : broadcastInDim ⟨2, ![N, 1]⟩ ![0] hbc ids (ix2 n (0 : Fin 1)) = ids (ix1 n) :=
    broadcastInDim_apply ![0] hbc ids (ix2 n (0 : Fin 1)) (ix1 n) (by
      intro a
      match a with
      | ⟨0, _⟩ =>
        show n.val = if N = 1 then 0 else n.val
        split
        · have := n.isLt; omega
        · rfl)
  unfold hit
  simp only [scatter_lands d huw hiw hsd hiv, hid]
  by_cases e : ids (ix1 n) = BitVec.ofNat 32 s.val
  · simp [e]
  · simp [e]

/-! ## The padding scatter -/

/-- Rows written over an array from row zero: the rows where there are some, the array below them. -/
theorem pad_rows {N P : ℕ} {α : Type} (d : ScatterDims ⟨2, ![P, 128]⟩ ⟨1, ![1]⟩ ⟨2, ![N, 128]⟩) (huw : d.updateWindowDims = [0, 1])
    (hiw : d.insertedWindowDims = []) (hsd : d.scatterDimsToOperandDims = [0]) (hiv : d.indexVectorDim = 0)
    (x0 : (⟨2, ![P, 128]⟩ : Shape).Idx → α) (idx : IVec ⟨1, ![1]⟩ 32) (hidx : ∀ i, idx i = 0#32)
    (upd : (⟨2, ![N, 128]⟩ : Shape).Idx → α) (r : Fin P) (c : Fin 128) :
    Host.scatter d (fun _ b => b) x0 idx upd (ix2 r c)
      = if h : r.val < N then upd (ix2 ⟨r.val, h⟩ c) else x0 (ix2 r c) := by
  have key : ∀ (n : Fin N) (b : Fin 128), d.resultIdx? (ix2 n b) idx = some (ix2 r c) ↔ n.val = r.val ∧ b = c := by
    intro n b
    obtain ⟨uw, iw, sd, iv, wf⟩ := d
    dsimp only at huw hiw hsd hiv
    subst huw hiw hsd hiv
    rw [resultIdx?_ix2]
    have w0 : ScatterDims.window (⟨[0, 1], [], [0], 0, wf⟩ : ScatterDims ⟨2, ![P, 128]⟩ ⟨1, ![1]⟩ ⟨2, ![N, 128]⟩) (ix2 n b) 0 = n.val := rfl
    have w1 : ScatterDims.window (⟨[0, 1], [], [0], 0, wf⟩ : ScatterDims ⟨2, ![P, 128]⟩ ⟨1, ![1]⟩ ⟨2, ![N, 128]⟩) (ix2 n b) 1 = b.val := rfl
    have s1 : ScatterDims.start (⟨[0, 1], [], [0], 0, wf⟩ : ScatterDims ⟨2, ![P, 128]⟩ ⟨1, ![1]⟩ ⟨2, ![N, 128]⟩) (ix2 n b) idx 1 = 0 := rfl
    have s0 : ScatterDims.start (⟨[0, 1], [], [0], 0, wf⟩ : ScatterDims ⟨2, ![P, 128]⟩ ⟨1, ![1]⟩ ⟨2, ![N, 128]⟩) (ix2 n b) idx 0 = 0 := by
      unfold ScatterDims.start
      rw [dif_pos (List.mem_singleton.2 rfl), hidx]; rfl
    rw [w0, w1, s1, s0, Fin.ext_iff]
    omega
  by_cases h : r.val < N
  · rw [dif_pos h]
    refine scatter_set_hit d x0 idx upd _ _ (fun k hk => ?_) (ix2 ⟨r.val, h⟩ c) ((key _ _).2 ⟨rfl, rfl⟩)
    rw [eq_ix2 k] at hk ⊢
    obtain ⟨e0, e1⟩ := (key _ _).1 hk
    exact congrArg upd (congrArg₂ ix2 (Fin.ext e0) e1)
  · rw [dif_neg h]
    refine scatter_set_miss d x0 idx upd _ fun k hk => ?_
    rw [eq_ix2 k] at hk
    have e0 := ((key _ _).1 hk).1
    have := (k 0).isLt
    exact h (e0 ▸ this)

/-- Entries written over a vector from position zero: the entries where there are some, the vector behind them. -/
theorem pad_entries {N P : ℕ} {α : Type} (d : ScatterDims ⟨1, ![P]⟩ ⟨1, ![1]⟩ ⟨1, ![N]⟩) (huw : d.updateWindowDims = [0])
    (hiw : d.insertedWindowDims = []) (hsd : d.scatterDimsToOperandDims = [0]) (hiv : d.indexVectorDim = 0)
    (x0 : (⟨1, ![P]⟩ : Shape).Idx → α) (idx : IVec ⟨1, ![1]⟩ 32) (hidx : ∀ i, idx i = 0#32)
    (upd : (⟨1, ![N]⟩ : Shape).Idx → α) (r : Fin P) :
    Host.scatter d (fun _ b => b) x0 idx upd (ix1 r)
      = if h : r.val < N then upd (ix1 ⟨r.val, h⟩) else x0 (ix1 r) := by
  have key : ∀ n : Fin N, d.resultIdx? (ix1 n) idx = some (ix1 r) ↔ n.val = r.val := by
    intro n
    obtain ⟨uw, iw, sd, iv, wf⟩ := d
    dsimp only at huw hiw hsd hiv
    subst huw hiw hsd hiv
    rw [resultIdx?_ix1]
    have w0 : ScatterDims.window (⟨[0], [], [0], 0, wf⟩ : ScatterDims ⟨1, ![P]⟩ ⟨1, ![1]⟩ ⟨1, ![N]⟩) (ix1 n) 0 = n.val := rfl
    have s0 : ScatterDims.start (⟨[0], [], [0], 0, wf⟩ : ScatterDims ⟨1, ![P]⟩ ⟨1, ![1]⟩ ⟨1, ![N]⟩) (ix1 n) idx 0 = 0 := by
      unfold ScatterDims.start
      rw [dif_pos (List.mem_singleton.2 rfl), hidx]; rfl
    rw [w0, s0]
    omega
  have eta : ∀ k : (⟨1, ![N]⟩ : Shape).Idx, k = ix1 (k 0) := fun k => by
    funext a
    match a with
    | ⟨0, _⟩ => rfl
  by_cases h : r.val < N
  · rw [dif_pos h]
    refine scatter_set_hit d x0 idx upd _ _ (fun k hk => ?_) (ix1 ⟨r.val, h⟩) ((key _).2 rfl)
    rw [eta k] at hk ⊢
    exact congrArg upd (congrArg ix1 (Fin.ext ((key _).1 hk)))
  · rw [dif_neg h]
    refine scatter_set_miss d x0 idx upd _ fun k hk => ?_
    rw [eta k] at hk
    have e0 := (key _).1 hk
    have := (k 0).isLt
    exact h (e0 ▸ this)

/-! ## Sums block by block -/

/-- A function of `Fin N` continued by zero. -/
def ext0 {N : ℕ} (f : Fin N → EReal) (n : ℕ) : EReal := if h : n < N then f ⟨n, h⟩ else 0

theorem ext0_of_lt {N : ℕ} (f : Fin N → EReal) (n : ℕ) (h : n < N) : ext0 f n = f ⟨n, h⟩ := dif_pos h

/-- The sum of a function of `Fin N` is the sum of its continuation over any longer range. -/
theorem sum_ext0 {N M : ℕ} (f : Fin N → EReal) (h : N ≤ M) : ∑ n ∈ Finset.range M, ext0 f n = ∑ n : Fin N, f n := by
  obtain ⟨k, rfl⟩ := Nat.exists_eq_add_of_le h
  rw [Finset.sum_range_add, Finset.sum_eq_zero (s := Finset.range k) (fun x _ => dif_neg (by omega)), add_zero,
    ← Fin.sum_univ_eq_sum_range]
  exact Finset.sum_congr rfl fun n _ => ext0_of_lt f _ n.isLt

/-- Padding with zero values, whatever their ids, leaves a segment sum as it is. -/
theorem sum_padded {N M : ℕ} (hNM : N ≤ M) (s : Fin 16) (ids : Fin N → BitVec 32) (x : Fin N → EReal) :
    ∑ r : Fin M, hit s (if h : r.val < N then ids ⟨r.val, h⟩ else 0#32) (if h : r.val < N then x ⟨r.val, h⟩ else 0)
      = ∑ n : Fin N, hit s (ids n) (x n) := by
  rw [← sum_ext0 (fun n => hit s (ids n) (x n)) hNM, ← Fin.sum_univ_eq_sum_range]
  refine Finset.sum_congr rfl fun r _ => ?_
  unfold ext0
  by_cases h : r.val < N
  · rw [dif_pos h, dif_pos h, dif_pos h]
  · rw [dif_neg h, dif_neg h, dif_neg h, hit_zero]

/-- Sums that grow by one block of `K` terms at a time are sums over a range. -/
theorem sum_blocks {T K : ℕ} (S : (n : ℕ) → n < T → EReal) (g : ℕ → EReal)
    (h0 : ∀ h, S 0 h = ∑ k : Fin K, g k.val)
    (hs : ∀ n (h : n + 1 < T), S (n + 1) h = S n (Nat.lt_of_succ_lt h) + ∑ k : Fin K, g (K * (n + 1) + k.val)) :
    ∀ n (h : n < T), S n h = ∑ i ∈ Finset.range (K * (n + 1)), g i
  | 0, h => by rw [h0, Fin.sum_univ_eq_sum_range, Nat.zero_add, Nat.mul_one]
  | n + 1, h => by
    rw [hs, sum_blocks S g h0 hs n, Nat.mul_succ K (n + 1), Finset.sum_range_add,
      Fin.sum_univ_eq_sum_range fun k => g (K * (n + 1) + k)]

end Cert.SegSum

end
-- ==== Proof.Hand.Sums.lean ====
/-
  The two arrays of segment sums at exact values: what the first pallas_call leaves in its output is, at each segment and
  column, the sum over all its rows of what each adds to the segment, and the same of the second.
-/
module

public import proofs.«01_k».proof.Proof.Hand.Nodes
public import proofs.«01_k».proof.Proof.Hand.Edges
public import proofs.«01_k».proof.Proof.Hand.SegSum
public import Idealize.ShloMosaic.Lib.Pipeline.ValueKit

@[expose] public section

set_option maxRecDepth 16384

noncomputable section

namespace Cert.KernelIdeal.Hand

open Cert.KernelIdeal.Gen Cert.SegSum
open Idealize.ShloMosaic hiding ix1 ix2 ix3
open Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The node rows -/

/-- Block `t` of the nodes' ids sits at page `t`. -/
theorem node_ids_index (t : Fin cfg0.N) : win0_0.index t = ![t.val, 0, 0] :=
  (by decide +kernel : ∀ t : Fin grid0.N, win0_0.index t = ![t.val, 0, 0]) t
/-- Block `t` of the node rows sits at the block row `t`. -/
theorem node_rows_index (t : Fin cfg0.N) : win0_1.index t = ![t.val, 0] :=
  (by decide +kernel : ∀ t : Fin grid0.N, win0_1.index t = ![t.val, 0]) t

/-- The ids' block at a point, read at position `k`: page `t` of the ids. -/
theorem node_ids_read (c : Dev nD) (t : Fin cfg0.N) (ht : t.val < 5) (k : Fin 2048) :
    (nodeBlk V c 0 t : S1x1x2048.Idx → BitVec 32) (ix3 (0 : Fin 1) (0 : Fin 1) k)
      = (V c main_v6 : S5x1x2048.Idx → BitVec 32) (ix3 (⟨t.val, ht⟩ : Fin 5) (0 : Fin 1) k) := by
  blk_simp [nodeBlk]
  blk_ext [node_ids_index]

/-- The rows' block at a point, read at row `k`: row `2048 t + k`. -/
theorem node_rows_read (c : Dev nD) (t : Fin cfg0.N) (k : Fin 2048) (hk : 2048 * t.val + k.val < 10240) (col : Fin 128) :
    (nodeBlk V c 1 t : S2048x128.Idx → EReal) (ix2 k col)
      = (V c main_v2 : S10240x128.Idx → EReal) (ix2 (⟨2048 * t.val + k.val, hk⟩ : Fin 10240) col) := by
  blk_simp [nodeBlk]
  blk_ext [node_rows_index]
  show t.val * 2048 + k.val = 2048 * t.val + k.val
  omega

/-- THE NODE SUMS after the last point, over the padded rows. -/
theorem nodeSum_last (c : Dev nD) (ids : Fin 10240 → BitVec 32) (x : Fin 10240 → Fin 128 → EReal)
    (hids : ∀ (b : Fin 5) (k : Fin 2048) (h : 2048 * b.val + k.val < 10240),
      (V c main_v6 : S5x1x2048.Idx → BitVec 32) (ix3 b (0 : Fin 1) k) = ids ⟨2048 * b.val + k.val, h⟩)
    (hx : ∀ r col, (V c main_v2 : S10240x128.Idx → EReal) (ix2 r col) = x r col) (s : Fin 16) (col : Fin 128) (h4 : 4 < cfg0.N) :
    (nodeSum V c 4 h4 : S16x128.Idx → EReal) (ix2 s col) = ∑ r : Fin 10240, hit s (ids r) (x r col) := by
  have hb : ∀ t : Fin cfg0.N, (k0_pay1 (nodeBlk V c 0 t) (nodeBlk V c 1 t) : S16x128.Idx → EReal) (ix2 s col)
      = ∑ k : Fin 2048, ext0 (fun r => hit s (ids r) (x r col)) (2048 * t.val + k.val) := by
    intro t
    have ht : t.val < 5 := lt_of_lt_of_eq t.isLt N_0
    unfold k0_pay1
    refine (block_apply _ rfl (nodeBlk V c 0 t) _ _ _ _ _ _ s col).trans (Finset.sum_congr rfl fun k _ => ?_)
    have hk : 2048 * t.val + k.val < 10240 := by have := k.isLt; omega
    rw [ext0_of_lt _ _ hk, node_ids_read V c t ht k, shapeCast_self, node_rows_read V c t k hk col, hids ⟨t.val, ht⟩ k hk, hx]
  refine (sum_blocks (T := cfg0.N) (K := 2048) (fun n h => (nodeSum V c n h : S16x128.Idx → EReal) (ix2 s col))
    (ext0 fun r => hit s (ids r) (x r col)) (fun h => ?_) (fun n h => ?_) 4 h4).trans (sum_ext0 _ (by decide))
  · refine (hb ⟨0, h⟩).trans (Finset.sum_congr rfl fun k _ => ?_)
    show ext0 _ (2048 * 0 + k.val) = _
    rw [Nat.mul_zero, Nat.zero_add]
  · show (k0_pay2 (nodeBlk V c 0 ⟨n + 1, h⟩) (nodeBlk V c 1 ⟨n + 1, h⟩) (nodeSum V c n _) : S16x128.Idx → EReal) (ix2 s col) = _
    rw [← hb ⟨n + 1, h⟩]
    unfold k0_pay2
    rw [shapeCast_self]
    rfl

/-- What the first pallas_call leaves in its output array: the sums after its last point. -/
theorem node_array (c : Dev nD) (h4 : 4 < cfg0.N) :
    ((dat0 V c).arrAt 2 cfg0.N : S16x128.Idx → EReal) = nodeSum V c 4 h4 := by
  refine (dat0 V c).arrAt_eq_of_after_last 2 t0_4 (by decide +kernel) _ fun j => ?_
  blk_simp
  rw [dat0_after2]
  rfl

/-! ## The edge rows -/

/-- The last point of the second pallas_call. -/
def last1 : Fin grid1.N := ⟨124, by rw [N_1]; decide⟩

/-- Block `t` of the edges' ids sits at page `t`. -/
theorem edge_ids_index (t : Fin cfg1.N) : win1_0.index t = ![t.val, 0, 0] :=
  (by decide +kernel : ∀ t : Fin grid1.N, win1_0.index t = ![t.val, 0, 0]) t
/-- Block `t` of the edge rows sits at the block row `t`. -/
theorem edge_rows_index (t : Fin cfg1.N) : win1_1.index t = ![t.val, 0] :=
  (by decide +kernel : ∀ t : Fin grid1.N, win1_1.index t = ![t.val, 0]) t

/-- The ids' block at a point, read at position `k`: page `t` of the ids. -/
theorem edge_ids_read (c : Dev nD) (t : Fin cfg1.N) (ht : t.val < 125) (k : Fin 2560) :
    (edgeBlk V c 0 t : S1x1x2560.Idx → BitVec 32) (ix3 (0 : Fin 1) (0 : Fin 1) k)
      = (V c main_v8 : S125x1x2560.Idx → BitVec 32) (ix3 (⟨t.val, ht⟩ : Fin 125) (0 : Fin 1) k) := by
  blk_simp [edgeBlk]
  blk_ext [edge_ids_index]

/-- The rows' block at a point, read at row `k`: row `2560 t + k`. -/
theorem edge_rows_read (c : Dev nD) (t : Fin cfg1.N) (k : Fin 2560) (hk : 2560 * t.val + k.val < 320000) (col : Fin 128) :
    (edgeBlk V c 1 t : S2560x128.Idx → EReal) (ix2 k col)
      = (V c main_arg2 : S320000x128.Idx → EReal) (ix2 (⟨2560 * t.val + k.val, hk⟩ : Fin 320000) col) := by
  blk_simp [edgeBlk]
  blk_ext [edge_rows_index]
  show t.val * 2560 + k.val = 2560 * t.val + k.val
  omega

/-- THE EDGE SUMS after the last point. -/
theorem edgeSum_last (c : Dev nD) (ids : Fin 320000 → BitVec 32) (x : Fin 320000 → Fin 128 → EReal)
    (hids : ∀ (b : Fin 125) (k : Fin 2560) (h : 2560 * b.val + k.val < 320000),
      (V c main_v8 : S125x1x2560.Idx → BitVec 32) (ix3 b (0 : Fin 1) k) = ids ⟨2560 * b.val + k.val, h⟩)
    (hx : ∀ r col, (V c main_arg2 : S320000x128.Idx → EReal) (ix2 r col) = x r col) (s : Fin 16) (col : Fin 128) (hn : 124 < cfg1.N) :
    (edgeSum V c 124 hn : S16x128.Idx → EReal) (ix2 s col) = ∑ r : Fin 320000, hit s (ids r) (x r col) := by
  have hb : ∀ t : Fin cfg1.N, (k1_pay1 (edgeBlk V c 0 t) (edgeBlk V c 1 t) : S16x128.Idx → EReal) (ix2 s col)
      = ∑ k : Fin 2560, ext0 (fun r => hit s (ids r) (x r col)) (2560 * t.val + k.val) := by
    intro t
    have ht : t.val < 125 := lt_of_lt_of_eq t.isLt N_1
    unfold k1_pay1
    refine (block_apply _ rfl (edgeBlk V c 0 t) _ _ _ _ _ _ s col).trans (Finset.sum_congr rfl fun k _ => ?_)
    have hk : 2560 * t.val + k.val < 320000 := by have := k.isLt; omega
    rw [ext0_of_lt _ _ hk, edge_ids_read V c t ht k, edge_rows_read V c t k hk col, hids ⟨t.val, ht⟩ k hk, hx]
  refine (sum_blocks (T := cfg1.N) (K := 2560) (fun n h => (edgeSum V c n h : S16x128.Idx → EReal) (ix2 s col))
    (ext0 fun r => hit s (ids r) (x r col)) (fun h => ?_) (fun n h => ?_) 124 hn).trans (sum_ext0 _ (by decide))
  · refine (hb ⟨0, h⟩).trans (Finset.sum_congr rfl fun k _ => ?_)
    show ext0 _ (2560 * 0 + k.val) = _
    rw [Nat.mul_zero, Nat.zero_add]
  · show (k1_pay2 (edgeBlk V c 0 ⟨n + 1, h⟩) (edgeBlk V c 1 ⟨n + 1, h⟩) (edgeSum V c n _) : S16x128.Idx → EReal) (ix2 s col) = _
    rw [← hb ⟨n + 1, h⟩]
    unfold k1_pay2
    rw [shapeCast_self]
    rfl

/-- What the second pallas_call leaves in its output array: the sums after its last point. -/
theorem edge_array (c : Dev nD) (hn : 124 < cfg1.N) :
    ((dat1 V c).arrAt 2 cfg1.N : S16x128.Idx → EReal) = edgeSum V c 124 hn := by
  refine (dat1 V c).arrAt_eq_of_after_last 2 last1 (by decide +kernel) _ fun j => ?_
  blk_simp
  rw [dat1_after2]
  rfl

end Cert.KernelIdeal.Hand

end
-- ==== Proof.Hand.Arrays.lean ====
/-
  The kernel's result at exact values as one term of its arguments: the two segment sums, and the perceptron of them.
-/
module

public import proofs.«01_k».proof.Proof.Hand.Run
public import proofs.«01_k».proof.Proof.Hand.Sums
public import Idealize.ShloMosaic.Lib.StableHlo.RunRead

@[expose] public section

set_option maxRecDepth 16384

noncomputable section

namespace Cert.KernelIdeal.Hand

open Cert.KernelIdeal.Gen Cert.SegSum
open Idealize.ShloMosaic hiding ix1 ix2 ix3
open Idealize.ShloMosaic.TcCoe Idealize.ShloMosaic.ValueIdx
open Idealize.SL.Sem
open Idealize.ShloMosaic.Pipeline (Dat Cfg Window)

/-! ## The third pallas_call's blocks are its whole operands -/

section Reads

variable (V : (c : Dev nD) → (b : Ref sig .tc) → Buf (Elt Ideal) ((c : Thread nD τ).loc b))

theorem mlp_read0 (c : Dev nD) (t : Fin cfg2.N) : (mlpBlk V c 0 t : S16x128.Idx → EReal) = V c main_arg0 := by
  funext y
  have e : win2_0.index t = ![0, 0] := (by decide +kernel : ∀ t : Fin grid2.N, win2_0.index t = ![0, 0]) t
  blk_simp [mlpBlk]
  blk_ext [e]
theorem mlp_read1 (c : Dev nD) (t : Fin cfg2.N) : (mlpBlk V c 1 t : S16x128.Idx → EReal) = V c main_v7 := by
  funext y
  have e : win2_1.index t = ![0, 0] := (by decide +kernel : ∀ t : Fin grid2.N, win2_1.index t = ![0, 0]) t
  blk_simp [mlpBlk]
  blk_ext [e]
theorem mlp_read2 (c : Dev nD) (t : Fin cfg2.N) : (mlpBlk V c 2 t : S16x128.Idx → EReal) = V c main_v9 := by
  funext y
  have e : win2_2.index t = ![0, 0] := (by decide +kernel : ∀ t : Fin grid2.N, win2_2.index t = ![0, 0]) t
  blk_simp [mlpBlk]
  blk_ext [e]
theorem mlp_read3 (c : Dev nD) (t : Fin cfg2.N) : (mlpBlk V c 3 t : S384x256.Idx → EReal) = V c main_arg5 := by
  funext y
  have e : win2_3.index t = ![0, 0] := (by decide +kernel : ∀ t : Fin grid2.N, win2_3.index t = ![0, 0]) t
  blk_simp [mlpBlk]
  blk_ext [e]
theorem mlp_read4 (c : Dev nD) (t : Fin cfg2.N) : (mlpBlk V c 4 t : S1x256.Idx → EReal) = V c main_v10 := by
  funext y
  have e : win2_4.index t = ![0, 0] := (by decide +kernel : ∀ t : Fin grid2.N, win2_4.index t = ![0, 0]) t
  blk_simp [mlpBlk]
  blk_ext [e]
theorem mlp_read5 (c : Dev nD) (t : Fin cfg2.N) : (mlpBlk V c 5 t : S256x128.Idx → EReal) = V c main_arg7 := by
  funext y
  have e : win2_5.index t = ![0, 0] := (by decide +kernel : ∀ t : Fin grid2.N, win2_5.index t = ![0, 0]) t
  blk_simp [mlpBlk]
  blk_ext [e]
theorem mlp_read6 (c : Dev nD) (t : Fin cfg2.N) : (mlpBlk V c 6 t : S1x128.Idx → EReal) = V c main_v11 := by
  funext y
  have e : win2_6.index t = ![0, 0] := (by decide +kernel : ∀ t : Fin grid2.N, win2_6.index t = ![0, 0]) t
  blk_simp [mlpBlk]
  blk_ext [e]
theorem mlp_read7 (c : Dev nD) (t : Fin cfg2.N) : (mlpBlk V c 7 t : S1x128.Idx → EReal) = V c main_v12 := by
  funext y
  have e : win2_7.index t = ![0, 0] := (by decide +kernel : ∀ t : Fin grid2.N, win2_7.index t = ![0, 0]) t
  blk_simp [mlpBlk]
  blk_ext [e]
theorem mlp_read8 (c : Dev nD) (t : Fin cfg2.N) : (mlpBlk V c 8 t : S1x128.Idx → EReal) = V c main_v13 := by
  funext y
  have e : win2_8.index t = ![0, 0] := (by decide +kernel : ∀ t : Fin grid2.N, win2_8.index t = ![0, 0]) t
  blk_simp [mlpBlk]
  blk_ext [e]

/-- What the third pallas_call leaves in its output array: the perceptron of its operands. -/
theorem mlp_array (c : Dev nD) :
    ((dat2 V c).arrAt 9 cfg2.N : S16x128.Idx → EReal)
      = mlpOut (V c main_arg0) (V c main_v7) (V c main_v9) (V c main_arg5) (V c main_v10) (V c main_arg7) (V c main_v11)
          (V c main_v12) (V c main_v13) := by
  refine (dat2 V c).arrAt_eq_of_after_last 9 t2_0 (by decide +kernel) _ fun j => ?_
  blk_simp
  rw [dat2_after9]
  unfold mlpRes
  rw [mlp_read0, mlp_read1, mlp_read2, mlp_read3, mlp_read4, mlp_read5, mlp_read6, mlp_read7, mlp_read8]

end Reads

/-! ## What the host operations leave -/

variable (m : (ℓ : Loc nD τ sig) → Buf (Elt Ideal) ℓ)

/-- The node rows as launched. -/
abbrev nodeRows (c : Dev nD) : S10000x128.Idx → EReal := m ((c : Thread nD τ).loc main_arg1)
/-- The edge rows as launched. -/
abbrev edgeRows (c : Dev nD) : S320000x128.Idx → EReal := m ((c : Thread nD τ).loc main_arg2)
/-- The nodes' ids as launched. -/
abbrev nodeIds (c : Dev nD) : S10000.Idx → BitVec 32 := m ((c : Thread nD τ).loc main_arg3)
/-- The edges' ids as launched. -/
abbrev edgeIds (c : Dev nD) : S320000.Idx → BitVec 32 := m ((c : Thread nD τ).loc main_arg4)

/-- The nodes, padded with zero rows. -/
theorem nodes_padded (c : Dev nD) (r : Fin 10240) (col : Fin 128) :
    (B1 m c main_v2 : S10240x128.Idx → EReal) (ix2 r col)
      = if h : r.val < 10000 then nodeRows m c (ix2 ⟨r.val, h⟩ col) else 0 := by
  have e : (B1 m c main_v2 : S10240x128.Idx → EReal)
      = Host.scatter scatter_S10240x128_S1_S10000x128_01_n_0_0 (fun _ b => b)
          (broadcastInDim S10240x128 ![] bcast_S_S10240x128 (constant S_ .f32 0x00000000#32 : FVec Ideal S_ .f32))
          (broadcastInDim S1 ![] bcast_S_S1 (constantI S_ 32 0#32)) (m ((c : Thread nD τ).loc main_arg1)) := by
    unfold B1 hostOps0
    after_reads_simp
  rw [e]
  refine (pad_rows _ rfl rfl rfl rfl _ _ (fun _ => rfl) _ r col).trans ?_
  congr 1
  funext _
  exact Ideal.ofBits_zero_f32

/-- The nodes' ids, padded with zeros and laid out in pages of 2048. -/
theorem node_ids_padded (c : Dev nD) (b : Fin 5) (k : Fin 2048) (hr : 2048 * b.val + k.val < 10240) :
    (B1 m c main_v6 : S5x1x2048.Idx → BitVec 32) (ix3 b (0 : Fin 1) k)
      = if h : 2048 * b.val + k.val < 10000 then nodeIds m c (ix1 ⟨_, h⟩) else 0#32 := by
  have e : (B1 m c main_v6 : S5x1x2048.Idx → BitVec 32)
      = shapeCast S5x1x2048 (Host.scatter scatter_S10240_S1_S10000_0_n_0_0 (fun _ b => b)
          (broadcastInDim S10240 ![] bcast_S_S10240 (constantI S_ 32 0#32))
          (broadcastInDim S1 ![] bcast_S_S1 (constantI S_ 32 0#32)) (m ((c : Thread nD τ).loc main_arg3))) shapeCasts_S10240_S5x1x2048 := by
    unfold B1 hostOps0
    after_reads_simp
    rfl
  rw [e]
  refine (shapeCast_apply _ _ (ix3 b (0 : Fin 1) k) (ix1 (⟨2048 * b.val + k.val, hr⟩ : Fin 10240)) ?_).trans
    (pad_entries _ rfl rfl rfl rfl _ _ (fun _ => rfl) _ ⟨2048 * b.val + k.val, hr⟩)
  rw [Shape.rowMajor_val_three, Shape.rowMajor_val_one]
  show 2048 * b.val + k.val = (b.val * 1 + 0) * 2048 + k.val
  omega

/-- The edges' ids, laid out in pages of 2560. -/
theorem edge_ids_paged (c : Dev nD) (b : Fin 125) (k : Fin 2560) (hr : 2560 * b.val + k.val < 320000) :
    (B3 m c main_v8 : S125x1x2560.Idx → BitVec 32) (ix3 b (0 : Fin 1) k)
      = edgeIds m c (ix1 ⟨2560 * b.val + k.val, hr⟩) := by
  have e : (B3 m c main_v8 : S125x1x2560.Idx → BitVec 32)
      = shapeCast S125x1x2560 (B2 m c main_arg4 : S320000.Idx → BitVec 32) shapeCasts_S320000_S125x1x2560 := by
    unfold B3 hostOps1
    after_reads_simp
    rfl
  have e4 : B2 m c main_arg4 = m ((c : Thread nD τ).loc main_arg4) :=
    (B2_of m c main_arg4 (by decide)).trans (B1_of m c main_arg4 (by decide))
  rw [e, e4]
  refine shapeCast_apply _ _ (ix3 b (0 : Fin 1) k) (ix1 (⟨2560 * b.val + k.val, hr⟩ : Fin 320000)) ?_
  rw [Shape.rowMajor_val_three, Shape.rowMajor_val_one]
  show 2560 * b.val + k.val = (b.val * 1 + 0) * 2560 + k.val
  omega

/-! ## The two segment sums -/

/-- The node sums as the third pallas_call finds them. -/
theorem node_sums (c : Dev nD) (s : Fin 16) (col : Fin 128) :
    (B5 m c main_v7 : S16x128.Idx → EReal) (ix2 s col)
      = ∑ n : Fin 10000, hit s (nodeIds m c (ix1 n))
          (nodeRows m c (ix2 n col)) := by
  have h4 : 4 < cfg0.N := by rw [show cfg0.N = 5 from N_0]; decide
  have e : B5 m c main_v7 = (dat0 (atTc (B1 m)) c).arrAt 2 cfg0.N :=
    (B5_of m c main_v7 (by decide)).trans ((B4_of m c main_v7 (by decide)).trans ((B3_of m c main_v7 (by decide)).trans (B2_arr m c 2)))
  rw [e]
  refine (congrFun (node_array (atTc (B1 m)) c h4) (ix2 s col)).trans ?_
  refine (nodeSum_last (atTc (B1 m)) c
    (fun r => if h : r.val < 10000 then nodeIds m c (ix1 ⟨r.val, h⟩) else 0#32)
    (fun r col => if h : r.val < 10000 then nodeRows m c (ix2 ⟨r.val, h⟩ col) else 0)
    (fun b k h => node_ids_padded m c b k h) (fun r col => nodes_padded m c r col) s col h4).trans ?_
  exact sum_padded (N := 10000) (M := 10240) (by omega) s (fun n => nodeIds m c (ix1 n)) (fun n => nodeRows m c (ix2 n col))

/-- The edge sums as the third pallas_call finds them. -/
theorem edge_sums (c : Dev nD) (s : Fin 16) (col : Fin 128) :
    (B5 m c main_v9 : S16x128.Idx → EReal) (ix2 s col)
      = ∑ n : Fin 320000, hit s (edgeIds m c (ix1 n))
          (edgeRows m c (ix2 n col)) := by
  have hn : 124 < cfg1.N := by rw [show cfg1.N = 125 from N_1]; decide
  have e : B5 m c main_v9 = (dat1 (atTc (B3 m)) c).arrAt 2 cfg1.N :=
    (B5_of m c main_v9 (by decide)).trans (B4_arr m c 2)
  rw [e]
  refine (congrFun (edge_array (atTc (B3 m)) c hn) (ix2 s col)).trans ?_
  exact edgeSum_last (atTc (B3 m)) c _ _ (fun b k h => edge_ids_paged m c b k h)
    (fun r col => congrFun (B3_still m c main_arg2 (by decide)) (ix2 r col)) s col hn

/-! ## The result -/

/-- The first layer's bias as one row. -/
theorem bias1_row (c : Dev nD) : (B5 m c main_v10 : S1x256.Idx → EReal)
    = shapeCast S1x256 (m ((c : Thread nD τ).loc main_arg6) : S256.Idx → EReal) shapeCasts_S256_S1x256 := by
  have e : (B5 m c main_v10 : S1x256.Idx → EReal) = shapeCast S1x256 (B4 m c main_arg6 : S256.Idx → EReal) shapeCasts_S256_S1x256 := by
    unfold B5 hostOps2
    after_reads_simp
    rfl
  have e4 : B4 m c main_arg6 = m ((c : Thread nD τ).loc main_arg6) :=
    (B4_of m c main_arg6 (by decide)).trans (B3_still m c main_arg6 (by decide))
  rw [e, e4]

/-- The second layer's bias as one row. -/
theorem bias2_row (c : Dev nD) : (B5 m c main_v11 : S1x128.Idx → EReal)
    = shapeCast S1x128 (m ((c : Thread nD τ).loc main_arg8) : S128.Idx → EReal) shapeCasts_S128_S1x128 := by
  have e : (B5 m c main_v11 : S1x128.Idx → EReal) = shapeCast S1x128 (B4 m c main_arg8 : S128.Idx → EReal) shapeCasts_S128_S1x128 := by
    unfold B5 hostOps2
    after_reads_simp
    rfl
  have e4 : B4 m c main_arg8 = m ((c : Thread nD τ).loc main_arg8) :=
    (B4_of m c main_arg8 (by decide)).trans (B3_still m c main_arg8 (by decide))
  rw [e, e4]

/-- The scale as one row. -/
theorem scale_row (c : Dev nD) : (B5 m c main_v12 : S1x128.Idx → EReal)
    = shapeCast S1x128 (m ((c : Thread nD τ).loc main_arg9) : S128.Idx → EReal) shapeCasts_S128_S1x128 := by
  have e : (B5 m c main_v12 : S1x128.Idx → EReal) = shapeCast S1x128 (B4 m c main_arg9 : S128.Idx → EReal) shapeCasts_S128_S1x128 := by
    unfold B5 hostOps2
    after_reads_simp
    rfl
  have e4 : B4 m c main_arg9 = m ((c : Thread nD τ).loc main_arg9) :=
    (B4_of m c main_arg9 (by decide)).trans (B3_still m c main_arg9 (by decide))
  rw [e, e4]

/-- The shift as one row. -/
theorem shift_row (c : Dev nD) : (B5 m c main_v13 : S1x128.Idx → EReal)
    = shapeCast S1x128 (m ((c : Thread nD τ).loc main_arg10) : S128.Idx → EReal) shapeCasts_S128_S1x128 := by
  have e : (B5 m c main_v13 : S1x128.Idx → EReal) = shapeCast S1x128 (B4 m c main_arg10 : S128.Idx → EReal) shapeCasts_S128_S1x128 := by
    unfold B5 hostOps2
    after_reads_simp
    rfl
  have e4 : B4 m c main_arg10 = m ((c : Thread nD τ).loc main_arg10) :=
    (B4_of m c main_arg10 (by decide)).trans (B3_still m c main_arg10 (by decide))
  rw [e, e4]

/-- THE KERNEL'S RESULT: the perceptron of the graph features, the two segment sums and the parameters. -/
theorem result_eq (c : Dev nD) :
    ((dat2 (atTc (B5 m)) c).arrAt 9 cfg2.N : S16x128.Idx → EReal)
      = mlpOut (m ((c : Thread nD τ).loc main_arg0)) (B5 m c main_v7) (B5 m c main_v9) (m ((c : Thread nD τ).loc main_arg5))
          (shapeCast S1x256 (m ((c : Thread nD τ).loc main_arg6) : S256.Idx → EReal) shapeCasts_S256_S1x256)
          (m ((c : Thread nD τ).loc main_arg7))
          (shapeCast S1x128 (m ((c : Thread nD τ).loc main_arg8) : S128.Idx → EReal) shapeCasts_S128_S1x128)
          (shapeCast S1x128 (m ((c : Thread nD τ).loc main_arg9) : S128.Idx → EReal) shapeCasts_S128_S1x128)
          (shapeCast S1x128 (m ((c : Thread nD τ).loc main_arg10) : S128.Idx → EReal) shapeCasts_S128_S1x128) := by
  rw [mlp_array]
  rw [← bias1_row m c, ← bias2_row m c, ← scale_row m c, ← shift_row m c, ← B5_still m c main_arg0 (by decide),
    ← B5_still m c main_arg5 (by decide), ← B5_still m c main_arg7 (by decide)]

end Cert.KernelIdeal.Hand

end
-- ==== Proof.Hand.Norm.lean ====
/-
  The layer norm at exact values: of a row of real numbers, the centred entry times the reciprocal square root of the
  shifted variance is the centred entry over its square root. And the array operations around it read at an index.
-/
module

public import Idealize.ShloMosaic.Lib.KernelVsHost
public import Idealize.ShloMosaic.Lib.IdealHost
public import Idealize.ShloMosaic.Lib.ValueIdx
public import Idealize.ShloMosaic.Lib.Pipeline.Value

@[expose] public section

noncomputable section

namespace Cert.Norm

open Idealize.ShloMosaic
open Idealize.ShloMosaic.ValueIdx
open scoped BigOperators

/-! ## Operations read at an index -/

section Reads
variable {α : Type} {m n : ℕ}

/-- A one-row matrix, cast to itself and laid along every row, reads the row's entry of the same column. -/
theorem row_read (x : (⟨2, ![1, n]⟩ : Shape).Idx → α) (h : (⟨2, ![1, n]⟩ : Shape).ShapeCasts ⟨2, ![1, n]⟩)
    (hb : (⟨2, ![1, n]⟩ : Shape).Broadcasts ⟨2, ![m, n]⟩) (i : Fin m) (t : Fin n) :
    broadcastTo ⟨2, ![m, n]⟩ (shapeCast ⟨2, ![1, n]⟩ x h) hb (ix2 i t) = x (ix2 (0 : Fin 1) t) := by
  rw [shapeCast_self]
  refine broadcastTo_apply x hb (ix2 i t) (ix2 (0 : Fin 1) t) fun a => ?_
  match a with
  | ⟨0, _⟩ => rfl
  | ⟨1, _⟩ =>
    show t.val = if n = 1 then 0 else t.val
    have := t.isLt
    split <;> omega

/-- A one-column matrix laid along every column reads the column's entry of the same row. -/
theorem col_read (v : (⟨2, ![m, 1]⟩ : Shape).Idx → α) (hb : (⟨2, ![m, 1]⟩ : Shape).Broadcasts ⟨2, ![m, n]⟩)
    (i : Fin m) (t : Fin n) : broadcastTo ⟨2, ![m, n]⟩ v hb (ix2 i t) = v (ix2 i (0 : Fin 1)) := by
  refine broadcastTo_apply v hb (ix2 i t) (ix2 i (0 : Fin 1)) fun a => ?_
  match a with
  | ⟨0, _⟩ =>
    show i.val = if m = 1 then 0 else i.val
    have := i.isLt
    split <;> omega
  | ⟨1, _⟩ => rfl

/-- A vector cast to a column reads the vector. -/
theorem col_cast (v : (⟨1, ![m]⟩ : Shape).Idx → α) (h : (⟨1, ![m]⟩ : Shape).ShapeCasts ⟨2, ![m, 1]⟩) (i : Fin m) :
    shapeCast ⟨2, ![m, 1]⟩ v h (ix2 i (0 : Fin 1)) = v (ix1 i) := by
  refine shapeCast_apply v h _ _ ?_
  rw [Shape.rowMajor_val_two, Shape.rowMajor_val_one]
  show i.val = i.val * 1 + 0
  omega

/-- A vector cast to a row reads the vector. -/
theorem row_cast (v : (⟨1, ![n]⟩ : Shape).Idx → α) (h : (⟨1, ![n]⟩ : Shape).ShapeCasts ⟨2, ![1, n]⟩) (t : Fin n) :
    shapeCast ⟨2, ![1, n]⟩ v h (ix2 (0 : Fin 1) t) = v (ix1 t) := by
  refine shapeCast_apply v h _ _ ?_
  rw [Shape.rowMajor_val_two, Shape.rowMajor_val_one]
  show t.val = 0 * n + t.val
  omega

/-- The host's column of a vector reads the vector. -/
theorem host_col (v : (⟨1, ![m]⟩ : Shape).Idx → α) (h : (⟨1, ![m]⟩ : Shape).BroadcastsInDim ⟨2, ![m, 1]⟩ ![0]) (i : Fin m) :
    broadcastInDim ⟨2, ![m, 1]⟩ ![0] h v (ix2 i (0 : Fin 1)) = v (ix1 i) := by
  refine broadcastInDim_apply ![0] h v _ _ fun a => ?_
  match a with
  | ⟨0, _⟩ =>
    show i.val = if m = 1 then 0 else i.val
    have := i.isLt
    split <;> omega

/-- The host's one-column matrix laid along every column reads the column's entry of the same row. -/
theorem host_col_read (v : (⟨2, ![m, 1]⟩ : Shape).Idx → α)
    (h : (⟨2, ![m, 1]⟩ : Shape).BroadcastsInDim ⟨2, ![m, n]⟩ ![0, 1]) (i : Fin m) (t : Fin n) :
    broadcastInDim ⟨2, ![m, n]⟩ ![0, 1] h v (ix2 i t) = v (ix2 i (0 : Fin 1)) := by
  refine broadcastInDim_apply ![0, 1] h v _ _ fun a => ?_
  match a with
  | ⟨0, _⟩ =>
    show i.val = if m = 1 then 0 else i.val
    have := i.isLt
    split <;> omega
  | ⟨1, _⟩ => rfl

/-- The host's row of a vector, laid along every row, reads the vector at the column. -/
theorem host_row_read (v : (⟨1, ![n]⟩ : Shape).Idx → α) (h : (⟨1, ![n]⟩ : Shape).BroadcastsInDim ⟨2, ![1, n]⟩ ![1])
    (h' : (⟨2, ![1, n]⟩ : Shape).BroadcastsInDim ⟨2, ![m, n]⟩ ![0, 1]) (i : Fin m) (t : Fin n) :
    broadcastInDim ⟨2, ![m, n]⟩ ![0, 1] h' (broadcastInDim ⟨2, ![1, n]⟩ ![1] h v) (ix2 i t) = v (ix1 t) := by
  rw [broadcastInDim_oneRow_apply]
  refine broadcastInDim_apply ![1] h v _ _ fun a => ?_
  match a with
  | ⟨0, _⟩ =>
    show t.val = if n = 1 then 0 else t.val
    have := t.isLt
    split <;> omega

/-- The kernel's sum along the columns reads, at a row, the sum of the row. -/
theorem row_sum (x : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (i : Fin m) :
    multiReduction .add [1] ⟨1, ![m]⟩ x 0x00000000#32 h hφ hacc (ix1 i) = ∑ t : Fin n, x (ix2 i t) := by
  refine (Ideal.multiReduction_add_single x _ h hφ hacc (ix1 i)).trans (Finset.sum_congr rfl fun k _ => congrArg x ?_)
  funext a
  apply Fin.ext
  match a with
  | ⟨0, _⟩ => rfl
  | ⟨1, _⟩ => rfl

/-- The host's sum along the columns, from a zero, reads the sum of the row. -/
theorem host_row_sum (x : FVec Ideal ⟨2, ![m, n]⟩ .f32) (h' : (⟨2, ![m, n]⟩ : Shape).ReducesTo [1] ⟨1, ![m]⟩)
    (h : (⟨2, ![m, n]⟩ : Shape).Reduces [1] ⟨1, ![m]⟩) (hu : 0 < (⟨0, ![]⟩ : Shape).numel) (i : Fin m) :
    Host.reduceAdd x (constant ⟨0, ![]⟩ .f32 0x00000000#32) h' hu (ix1 i) = ∑ t : Fin n, x (ix2 i t) := by
  rw [← multiReduction_add_eq_hostReduceAdd x 0x00000000#32 h (.inl rfl) rfl _ h' hu Ideal.ofBits_zero_f32]
  exact row_sum x h _ _ i

end Reads

/-! ## The numbers -/

/-- The row's length as the programs spell it. -/
abbrev len : EReal := Ideal.ofBits .f32 0x43000000#32
/-- The shift of the variance as the programs spell it. -/
abbrev eps : EReal := Ideal.ofBits .f32 0x3A83126F#32

/-- The row's length is 128. -/
theorem len_eq : len = ((128 : ℝ) : EReal) := by
  simp [len, Ideal.ofBits, Ideal.ieee, -EReal.coe_mul]; norm_num

/-- The shift is a positive real. -/
theorem eps_eq : ∃ r : ℝ, 0 < r ∧ eps = (r : EReal) := by
  refine ⟨_, ?_, by simp [eps, Ideal.ofBits, Ideal.ieee, -EReal.coe_mul]; rfl⟩
  norm_num

/-- A quotient of reals by the row's length is real. -/
theorem div_len (x : ℝ) : Ideal.div (x : EReal) len = ((x / 128 : ℝ) : EReal) := by
  rw [len_eq, Ideal.div_coe (by norm_num), ← EReal.coe_mul]
  congr 1
  ring

/-- A finite sum of reals, taken among the extended reals, is their real sum. -/
theorem sum_coe {n : ℕ} (f : Fin n → ℝ) : (∑ t, (f t : EReal)) = ((∑ t, f t : ℝ) : EReal) := by
  induction n with
  | zero => simp
  | succ n ih => rw [Fin.sum_univ_succ, Fin.sum_univ_succ, ih, EReal.coe_add]

/-- The logistic function's values are real. -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- A row's mean. -/
abbrev mean {n : ℕ} (o : Fin n → EReal) : EReal := Ideal.div (∑ t, o t) len
/-- A row's centred entry. -/
abbrev ctr {n : ℕ} (o : Fin n → EReal) (t : Fin n) : EReal := o t - mean o
/-- A row's shifted variance. -/
abbrev spread {n : ℕ} (o : Fin n → EReal) : EReal := Ideal.div (∑ t, ctr o t * ctr o t) len + eps

/-- A real over the square root of a positive real is the real times its reciprocal square root. -/
theorem div_sqrt (x : EReal) {v : ℝ} (hv : 0 < v) : Ideal.div x (Ideal.sqrt (v : EReal)) = x * Ideal.rsqrt (v : EReal) := by
  have h1 : ¬ v < 0 := not_lt.2 hv.le
  have h2 : Real.sqrt v ≠ 0 := (Real.sqrt_pos.2 hv).ne'
  rw [Ideal.sqrt_coe, Ideal.rsqrt_coe, if_neg h1, if_neg h1, if_neg hv.ne', Ideal.div_coe h2, one_div]

/-- The shifted variance of a row of reals is a positive real. -/
theorem spread_pos {n : ℕ} (o : Fin n → EReal) (ho : ∀ t, ∃ r : ℝ, o t = (r : EReal)) : ∃ v : ℝ, 0 < v ∧ spread o = (v : EReal) := by
  choose f hf using ho
  obtain ⟨e, he, hee⟩ := eps_eq
  have hm : mean o = (((∑ t, f t) / 128 : ℝ) : EReal) := by
    rw [mean, Finset.sum_congr rfl fun t _ => hf t, sum_coe, div_len]
  have hc : ∀ t, ctr o t * ctr o t = (((f t - (∑ t, f t) / 128) * (f t - (∑ t, f t) / 128) : ℝ) : EReal) := fun t => by
    rw [ctr, hm, hf t, ← EReal.coe_sub, ← EReal.coe_mul]
  refine ⟨(∑ t, (f t - (∑ t, f t) / 128) * (f t - (∑ t, f t) / 128)) / 128 + e, ?_, ?_⟩
  · have : 0 ≤ ∑ t, (f t - (∑ t, f t) / 128) * (f t - (∑ t, f t) / 128) := Finset.sum_nonneg fun t _ => mul_self_nonneg _
    positivity
  · rw [spread, Finset.sum_congr rfl fun t _ => hc t, sum_coe, div_len, hee, ← EReal.coe_add]

/-- THE NORM: of a row of reals, a centred entry over the root of the shifted variance is the entry times its reciprocal
    root. -/
theorem norm_eq {n : ℕ} (o : Fin n → EReal) (ho : ∀ t, ∃ r : ℝ, o t = (r : EReal)) (t : Fin n) :
    Ideal.div (ctr o t) (Ideal.sqrt (spread o)) = ctr o t * Ideal.rsqrt (spread o) := by
  obtain ⟨v, hv, he⟩ := spread_pos o ho
  rw [he]
  exact div_sqrt _ hv

end Cert.Norm

end
-- ==== Proof.Hand.Perceptron.lean ====
/-
  The perceptron and the layer norm at exact values: the kernel's third pallas_call stores, of the graph features and the
  two arrays of segment sums, what the reference computes of them.
-/
module

public import proofs.«01_k».proof.Proof.Hand.Mlp
public import proofs.«01_k».proof.Proof.Hand.Norm
public import proofs.«01_k».proof.Proof.Gen.ReferenceIdeal
public import Idealize.ShloMosaic.Lib.MatmulPlain
public import Idealize.ShloMosaic.Lib.StackMember
public import Idealize.ShloMosaic.Lib.Pipeline.ValueKit

@[expose] public section

set_option maxRecDepth 16384

noncomputable section

namespace Cert.Perceptron

open Cert.Norm
open Idealize.ShloMosaic hiding ix1 ix2 ix3 eq_ix2
open Idealize.ShloMosaic.ValueIdx
open scoped BigOperators

/-- A matrix of `m` rows and `n` columns of extended reals. -/
abbrev Mat (m n : ℕ) : Type := FVec Ideal ⟨2, ![m, n]⟩ .f32

/-! ## What both programs compute -/

/-- The hidden layer before its threshold: the three operands against their 128 rows of the weights, and the bias. -/
def pre (g n e : Mat 16 128) (w : Mat 384 256) (b : Fin 256 → EReal) (i : Fin 16) (j : Fin 256) : EReal :=
  (∑ k : Fin 128, g (ix2 i k) * w (ix2 (⟨k.val, by omega⟩ : Fin 384) j))
    + (∑ k : Fin 128, n (ix2 i k) * w (ix2 (⟨128 + k.val, by omega⟩ : Fin 384) j))
    + (∑ k : Fin 128, e (ix2 i k) * w (ix2 (⟨256 + k.val, by omega⟩ : Fin 384) j)) + b j

/-- The second layer's logistic output of any hidden layer. -/
def gate (h : Fin 16 → Fin 256 → EReal) (w : Mat 256 128) (b : Fin 128 → EReal) (i : Fin 16) (t : Fin 128) : EReal :=
  Ideal.logistic ((∑ k : Fin 256, max (h i k) 0 * w (ix2 k t)) + b t)

/-! ## The kernel's side -/

section Kernel
open Cert.KernelIdeal Cert.KernelIdeal.Gen Cert.KernelIdeal.Hand

/-- A plain product from a zero accumulator, read at an index. -/
theorem product_apply {M K N : ℕ} (D : DotDims ⟨2, ![M, K]⟩ ⟨2, ![K, N]⟩ ⟨2, ![M, N]⟩) (hD : D = DotDims.plain M K N)
    (x : Mat M K) (y : Mat K N) (i : Fin M) (j : Fin N) :
    matmul D none x y (constant ⟨2, ![M, N]⟩ .f32 0x00000000#32) (ix2 i j) = ∑ k : Fin K, x (ix2 i k) * y (ix2 k j) := by
  subst hD
  refine (Ideal.matmul_plain_apply _ _ _ _ i j).trans ?_
  have h0 : (constant ⟨2, ![M, N]⟩ .f32 0x00000000#32 : FVec Ideal _ .f32) (ix2 i j) = 0 := Ideal.ofBits_zero_f32
  rw [h0, zero_add]

/-- The rows of the first weights that meet the graph features. -/
theorem w1Graph_apply (w : Mat 384 256) (k : Fin 128) (j : Fin 256) :
    w1Graph (F := Ideal) w (ix2 k j) = w (ix2 (⟨k.val, by omega⟩ : Fin 384) j) := by
  refine View.ld_unit_apply_of (Val := Elt Ideal) (S := S384x256) (e := .f32) w _ S128x256.size _ (ix2 k j) _ fun a => ?_
  match a with
  | ⟨0, _⟩ => exact (Nat.zero_add _).symm
  | ⟨1, _⟩ => exact (Nat.zero_add _).symm
/-- The rows of the first weights that meet the node sums. -/
theorem w1Node_apply (w : Mat 384 256) (k : Fin 128) (j : Fin 256) :
    w1Node (F := Ideal) w (ix2 k j) = w (ix2 (⟨128 + k.val, by omega⟩ : Fin 384) j) := by
  refine View.ld_unit_apply_of (Val := Elt Ideal) (S := S384x256) (e := .f32) w _ S128x256.size _ (ix2 k j) _ fun a => ?_
  match a with
  | ⟨0, _⟩ => rfl
  | ⟨1, _⟩ => exact (Nat.zero_add _).symm
/-- The rows of the first weights that meet the edge sums. -/
theorem w1Edge_apply (w : Mat 384 256) (k : Fin 128) (j : Fin 256) :
    w1Edge (F := Ideal) w (ix2 k j) = w (ix2 (⟨256 + k.val, by omega⟩ : Fin 384) j) := by
  refine View.ld_unit_apply_of (Val := Elt Ideal) (S := S384x256) (e := .f32) w _ S128x256.size _ (ix2 k j) _ fun a => ?_
  match a with
  | ⟨0, _⟩ => rfl
  | ⟨1, _⟩ => exact (Nat.zero_add _).symm

/-- The kernel's hidden layer before its threshold, read at an index. -/
theorem kernel_pre (x0 x1 x2 : Mat 16 128) (w : Mat 384 256) (b : Mat 1 256) (i : Fin 16) (j : Fin 256) :
    addf (addf (addf
        (matmul (φ₁ := .f32) (φ₂ := .f32) dot_S16x128_S128x256_S16x256_1_0_0_1_n_n none x0 (w1Graph (F := Ideal) w : Mat 128 256) (constant S16x256 .f32 0x00000000#32))
        (matmul (φ₁ := .f32) (φ₂ := .f32) dot_S16x128_S128x256_S16x256_1_0_0_1_n_n none (shapeCast S16x128 x1 shapeCasts_S16x128_S16x128) (w1Node (F := Ideal) w : Mat 128 256)
          (constant S16x256 .f32 0x00000000#32)))
        (matmul (φ₁ := .f32) (φ₂ := .f32) dot_S16x128_S128x256_S16x256_1_0_0_1_n_n none (shapeCast S16x128 x2 shapeCasts_S16x128_S16x128) (w1Edge (F := Ideal) w : Mat 128 256)
          (constant S16x256 .f32 0x00000000#32)))
        (broadcastTo S16x256 (shapeCast S1x256 b shapeCasts_S1x256_S1x256) broadcasts_S1x256_S16x256) (ix2 i j)
      = pre x0 x1 x2 w (fun j => b (ix2 (0 : Fin 1) j)) i j := by
  rw [shapeCast_self, shapeCast_self]
  show matmul (F := Ideal) _ _ _ _ _ (ix2 i j) + matmul (F := Ideal) _ _ _ _ _ (ix2 i j) + matmul (F := Ideal) _ _ _ _ _ (ix2 i j)
    + broadcastTo _ _ _ (ix2 i j) = _
  rw [product_apply dot_S16x128_S128x256_S16x256_1_0_0_1_n_n rfl, product_apply dot_S16x128_S128x256_S16x256_1_0_0_1_n_n rfl,
    product_apply dot_S16x128_S128x256_S16x256_1_0_0_1_n_n rfl, row_read]
  simp only [w1Graph_apply, w1Node_apply, w1Edge_apply]
  rfl

/-- The kernel's logistic output, read at an index. -/
theorem kernel_gate (x0 x1 x2 : Mat 16 128) (w : Mat 384 256) (b : Mat 1 256) (w' : Mat 256 128) (b' : Mat 1 128)
    (i : Fin 16) (t : Fin 128) :
    k2_pay2 (F := Ideal) x0 (w1Graph w) x1 (w1Node w) x2 (w1Edge w) b w' b' (ix2 i t)
      = gate (pre x0 x1 x2 w fun j => b (ix2 (0 : Fin 1) j)) w' (fun t => b' (ix2 (0 : Fin 1) t)) i t := by
  unfold k2_pay2
  show Ideal.div (Ideal.ofBits .f32 0x3F800000#32) (Ideal.ofBits .f32 0x3F800000#32
    + Ideal.exp (Ideal.ofBits .f32 0x00000000#32 - (matmul (F := Ideal) _ _ _ _ _ (ix2 i t) + broadcastTo _ _ _ (ix2 i t)))) = _
  rw [Ideal.ofBits_one_f32, Ideal.ofBits_zero_f32, product_apply dot_S16x256_S256x128_S16x128_1_0_0_1_n_n rfl, row_read, zero_sub]
  unfold gate Ideal.logistic
  congr 5
  refine Finset.sum_congr rfl fun k _ => congrArg (· * w' (ix2 k t)) ?_
  show max (_ : EReal) (Ideal.ofBits .f32 0x00000000#32) = _
  rw [Ideal.ofBits_zero_f32]
  exact congrArg (max · 0) (kernel_pre x0 x1 x2 w b i k)

/-- The kernel's layer norm of any array, read at an index. -/
theorem kernel_norm (o : Mat 16 128) (s s' : Mat 1 128) (i : Fin 16) (t : Fin 128) :
    k2_pay1 (F := Ideal) o (multiReduction .add [1] S16 o 0x00000000#32 reduces_S16x128_S16 (.inl rfl) rfl) s s' (ix2 i t)
      = ctr (fun t => o (ix2 i t)) t * Ideal.rsqrt (spread fun t => o (ix2 i t)) * s (ix2 (0 : Fin 1) t) + s' (ix2 (0 : Fin 1) t) := by
  unfold k2_pay1
  have hm : ∀ i, divf (shapeCast S16x1 (multiReduction .add [1] S16 o 0x00000000#32 reduces_S16x128_S16 (.inl rfl) rfl) shapeCasts_S16_S16x1)
      (broadcast S16x1 (Scalar.ofBits .f32 0x43000000#32)) (ix2 i (0 : Fin 1)) = mean fun t => o (ix2 i t) := fun i => by
    show Ideal.div (shapeCast S16x1 _ _ (ix2 i (0 : Fin 1))) len = _
    rw [col_cast]
    exact congrArg (Ideal.div · len) (row_sum o _ _ _ i)
  have hc : ∀ i t, subf o (broadcastTo S16x128 (divf (shapeCast S16x1 (multiReduction .add [1] S16 o 0x00000000#32 reduces_S16x128_S16
      (.inl rfl) rfl) shapeCasts_S16_S16x1) (broadcast S16x1 (Scalar.ofBits .f32 0x43000000#32))) broadcasts_S16x1_S16x128) (ix2 i t)
      = ctr (fun t => o (ix2 i t)) t := fun i t => by
    show (o (ix2 i t) : EReal) - broadcastTo _ _ _ (ix2 i t) = _
    rw [col_read, hm]
  show subf (F := Ideal) _ _ (ix2 i t) * broadcastTo _ _ _ (ix2 i t) * broadcastTo _ _ _ (ix2 i t) + broadcastTo _ _ _ (ix2 i t) = _
  rw [row_read, row_read, col_read, hc]
  congr 3
  show Ideal.rsqrt (Ideal.div (shapeCast S16x1 _ _ (ix2 i (0 : Fin 1))) len + eps) = _
  rw [col_cast]
  refine congrArg (fun x => Ideal.rsqrt (Ideal.div x len + eps)) ((row_sum _ _ _ _ i).trans (Finset.sum_congr rfl fun k _ => ?_))
  show subf (F := Ideal) _ _ (ix2 i k) * subf (F := Ideal) _ _ (ix2 i k) = _
  rw [hc]

end Kernel

/-! ## The reference's side -/

section Reference
open Cert.ReferenceIdeal Cert.ReferenceIdeal.Gen

/-- A plain product on the host, read at an index. -/
theorem host_product_apply {M K N : ℕ} (D : DotDims ⟨2, ![M, K]⟩ ⟨2, ![K, N]⟩ ⟨2, ![M, N]⟩) (hD : D = DotDims.plain M K N)
    (x : Mat M K) (y : Mat K N) (i : Fin M) (j : Fin N) :
    Host.dotGeneral D none x y (ix2 i j) = ∑ k : Fin K, x (ix2 i k) * y (ix2 k j) := by
  rw [← matmul_zero_eq_dotGeneral]
  exact product_apply D hD x y i j

/-- A sum over 384 positions is the sum over three ranges of 128. -/
theorem sum_thirds (f : Fin 384 → EReal) : ∑ k, f k = (∑ k : Fin 128, f ⟨k.val, by omega⟩)
    + (∑ k : Fin 128, f ⟨128 + k.val, by omega⟩) + ∑ k : Fin 128, f ⟨256 + k.val, by omega⟩ := by
  have h := Fin.sum_univ_add (a := 256) (b := 128) f
  have h' := Fin.sum_univ_add (a := 128) (b := 128) fun k => f (Fin.castAdd 128 k)
  exact h.trans (congrArg (· + _) h')

/-- The three arrays side by side. -/
abbrev beside (g n e : Mat 16 128) : Mat 16 384 :=
  concatenate S16x384 1 [⟨S16x128, g⟩, ⟨S16x128, n⟩, ⟨S16x128, e⟩] concatenates_S16x128_S16x128_S16x128_S16x384_d1

/-- The first array of three side by side. -/
theorem beside_fst (g n e : Mat 16 128) (i : Fin 16) (k : Fin 128) :
    beside g n e (ix2 i (⟨k.val, by omega⟩ : Fin 384)) = g (ix2 i k) :=
  concatenate_apply_piece (t := S16x384) 1 _ _ _ 0 (by simp) S16x128 g rfl rfl 0 rfl (ix2 i k)
    (fun b hb => by
      match b with
      | ⟨0, _⟩ => rfl
      | ⟨1, _⟩ => exact absurd rfl hb)
    (Nat.zero_add _)
/-- The second array of three side by side. -/
theorem beside_snd (g n e : Mat 16 128) (i : Fin 16) (k : Fin 128) :
    beside g n e (ix2 i (⟨128 + k.val, by omega⟩ : Fin 384)) = n (ix2 i k) :=
  concatenate_apply_piece (t := S16x384) 1 _ _ _ 1 (by simp) S16x128 n rfl rfl 128 rfl (ix2 i k)
    (fun b hb => by
      match b with
      | ⟨0, _⟩ => rfl
      | ⟨1, _⟩ => exact absurd rfl hb)
    rfl
/-- The third array of three side by side. -/
theorem beside_thd (g n e : Mat 16 128) (i : Fin 16) (k : Fin 128) :
    beside g n e (ix2 i (⟨256 + k.val, by omega⟩ : Fin 384)) = e (ix2 i k) :=
  concatenate_apply_piece (t := S16x384) 1 _ _ _ 2 (by simp) S16x128 e rfl rfl 256 rfl (ix2 i k)
    (fun b hb => by
      match b with
      | ⟨0, _⟩ => rfl
      | ⟨1, _⟩ => exact absurd rfl hb)
    rfl

/-- The reference's logistic output as a term of its operands. -/
abbrev hostGate (g n e : Mat 16 128) (w : Mat 384 256) (b : FVec Ideal S256 .f32) (w' : Mat 256 128) (b' : FVec Ideal S128 .f32) : Mat 16 128 :=
  Host.divf (broadcastInDim S16x128 ![] bcast_S_S16x128 (constant S_ .f32 0x3F800000#32)) (addf (broadcastInDim S16x128 ![] bcast_S_S16x128
    (constant S_ .f32 0x3F800000#32)) (Host.exp (Host.negf (addf (Host.dotGeneral dot_S16x256_S256x128_S16x128_1_0_0_1_n_n none
      (maximumf (addf (Host.dotGeneral dot_S16x384_S384x256_S16x256_1_0_0_1_n_n none (beside g n e) w)
        (broadcastInDim S16x256 ![0, 1] bcast_S1x256_S16x256_0_1 (broadcastInDim S1x256 ![1] bcast_S256_S1x256_1 b)))
        (broadcastInDim S16x256 ![] bcast_S_S16x256 (constant S_ .f32 0x00000000#32))) w')
      (broadcastInDim S16x128 ![0, 1] bcast_S1x128_S16x128_0_1 (broadcastInDim S1x128 ![1] bcast_S128_S1x128_1 b'))))))

/-- The reference's hidden layer before its threshold, read at an index. -/
theorem host_pre (g n e : Mat 16 128) (w : Mat 384 256) (b : FVec Ideal S256 .f32) (i : Fin 16) (j : Fin 256) :
    addf (Host.dotGeneral dot_S16x384_S384x256_S16x256_1_0_0_1_n_n none (beside g n e) w)
        (broadcastInDim S16x256 ![0, 1] bcast_S1x256_S16x256_0_1 (broadcastInDim S1x256 ![1] bcast_S256_S1x256_1 b)) (ix2 i j)
      = pre g n e w (fun j => b (ix1 j)) i j := by
  show Host.dotGeneral (F := Ideal) _ _ _ _ (ix2 i j) + broadcastInDim _ _ _ _ (ix2 i j) = _
  rw [host_product_apply dot_S16x384_S384x256_S16x256_1_0_0_1_n_n rfl, host_row_read, sum_thirds]
  simp only [beside_fst, beside_snd, beside_thd]
  rfl

/-- The reference's logistic output, read at an index. -/
theorem host_gate (g n e : Mat 16 128) (w : Mat 384 256) (b : FVec Ideal S256 .f32) (w' : Mat 256 128) (b' : FVec Ideal S128 .f32)
    (i : Fin 16) (t : Fin 128) :
    hostGate g n e w b w' b' (ix2 i t) = gate (pre g n e w fun j => b (ix1 j)) w' (fun t => b' (ix1 t)) i t := by
  show Ideal.div (Ideal.ofBits .f32 0x3F800000#32) (Ideal.ofBits .f32 0x3F800000#32
    + Ideal.exp (-(Host.dotGeneral (F := Ideal) _ _ _ _ (ix2 i t) + broadcastInDim _ _ _ _ (ix2 i t)))) = _
  rw [Ideal.ofBits_one_f32, host_product_apply dot_S16x256_S256x128_S16x128_1_0_0_1_n_n rfl, host_row_read]
  unfold gate Ideal.logistic
  congr 5
  refine Finset.sum_congr rfl fun k _ => congrArg (· * w' (ix2 k t)) ?_
  show max (_ : EReal) (Ideal.ofBits .f32 0x00000000#32) = _
  rw [Ideal.ofBits_zero_f32]
  exact congrArg (max · 0) (host_pre g n e w b i k)

/-- The reference's mean of each row, laid along the row. -/
abbrev hostMean (o : Mat 16 128) : Mat 16 128 :=
  broadcastInDim S16x128 ![0, 1] bcast_S16x1_S16x128_0_1 (Host.divf (broadcastInDim S16x1 ![0] bcast_S16_S16x1_0
    (Host.reduceAdd o (constant S_ .f32 0x00000000#32) reducesTo_S16x128_S16_d1 h_S_))
    (broadcastInDim S16x1 ![] bcast_S_S16x1 (constant S_ .f32 0x43000000#32)))

/-- The reference's variance of each row: a quotient by the row's length less a zero, kept as that difference is positive. -/
abbrev hostVar (o : Mat 16 128) : Mat 16 1 :=
  select (broadcastInDim S16x1 ![] bcast_S_S16x1 (cmpf .ogt (subf (constant S_ .f32 0x43000000#32)
      (sitofp .f32 (constantI S_ 32 0#32)) : FVec Ideal S_ .f32) (constant S_ .f32 0x00000000#32)))
    (Host.divf (broadcastInDim S16x1 ![0] bcast_S16_S16x1_0 (Host.reduceAdd (mulf (subf o (hostMean o)) (subf o (hostMean o)))
      (constant S_ .f32 0x00000000#32) reducesTo_S16x128_S16_d1 h_S_))
      (broadcastInDim S16x1 ![] bcast_S_S16x1 (subf (constant S_ .f32 0x43000000#32) (sitofp .f32 (constantI S_ 32 0#32)))))
    (broadcastInDim S16x1 ![] bcast_S_S16x1 (id (constant S_ .f32 0x7FC00000#32)))

/-- The reference's layer norm as a term of its operands. -/
abbrev hostNorm (o : Mat 16 128) (s s' : FVec Ideal S128 .f32) : Mat 16 128 :=
  addf (mulf (Host.divf (subf o (hostMean o)) (broadcastInDim S16x128 ![0, 1] bcast_S16x1_S16x128_0_1
      (Host.sqrt (addf (hostVar o) (broadcastInDim S16x1 ![] bcast_S_S16x1 (constant S_ .f32 0x3A83126F#32))))))
    (broadcastInDim S16x128 ![0, 1] bcast_S1x128_S16x128_0_1 (broadcastInDim S1x128 ![1] bcast_S128_S1x128_1 s)))
    (broadcastInDim S16x128 ![0, 1] bcast_S1x128_S16x128_0_1 (broadcastInDim S1x128 ![1] bcast_S128_S1x128_1 s'))

/-- The axes of the sums along the columns. -/
theorem reduces_row : (⟨2, ![16, 128]⟩ : Shape).Reduces [1] ⟨1, ![16]⟩ := by decide

/-- The reference's centred entry. -/
theorem host_ctr (o : Mat 16 128) (i : Fin 16) (t : Fin 128) :
    subf o (hostMean o) (ix2 i t) = ctr (fun t => o (ix2 i t)) t := by
  show (o (ix2 i t) : EReal) - broadcastInDim _ _ _ _ (ix2 i t) = _
  rw [host_col_read]
  show (o (ix2 i t) : EReal) - Ideal.div (broadcastInDim _ _ _ _ (ix2 i (0 : Fin 1))) len = _
  rw [host_col, host_row_sum o _ reduces_row]

/-- The row's length less the converted zero is the row's length. -/
theorem len_sub : (subf (constant S_ .f32 0x43000000#32) (sitofp .f32 (constantI S_ 32 0#32)) : FVec Ideal S_ .f32) = fun _ => len := by
  funext j
  show len - (Scalar.sitofp .f32 0#32 : Ideal .f32) = len
  rw [sitofp_zero, sub_zero]

/-- The row's length exceeds zero. -/
theorem len_pos : (cmpf (F := Ideal) (φ := .f32) .ogt (fun _ : S_.Idx => len) (constant S_ .f32 0x00000000#32)) = fun _ => 1#1 := by
  funext j
  have h : (0 : EReal) < len := by rw [len_eq]; exact_mod_cast (by norm_num : (0 : ℝ) < 128)
  show Ideal.cmp .ogt len (Ideal.ofBits .f32 0x00000000#32) = 1#1
  rw [Ideal.ofBits_zero_f32]
  simp [Ideal.cmp, h]

/-- The reference's variance, read at a row. -/
theorem host_var (o : Mat 16 128) (i : Fin 16) :
    (hostVar o (ix2 i (0 : Fin 1)) : EReal) + eps = spread fun t => o (ix2 i t) := by
  unfold hostVar
  rw [len_sub, len_pos]
  show Ideal.div (broadcastInDim _ _ _ _ (ix2 i (0 : Fin 1))) len + eps = _
  rw [host_col, host_row_sum _ _ reduces_row]
  refine congrArg (fun x => Ideal.div x len + eps) (Finset.sum_congr rfl fun k _ => ?_)
  show (subf o (hostMean o) (ix2 i k) : EReal) * subf o (hostMean o) (ix2 i k) = _
  rw [host_ctr]

/-- The reference's layer norm, read at an index. -/
theorem host_norm (o : Mat 16 128) (s s' : FVec Ideal S128 .f32) (i : Fin 16) (t : Fin 128) :
    hostNorm o s s' (ix2 i t) = Ideal.div (ctr (fun t => o (ix2 i t)) t) (Ideal.sqrt (spread fun t => o (ix2 i t))) * s (ix1 t) + s' (ix1 t) := by
  show Ideal.div (subf o (hostMean o) (ix2 i t)) (broadcastInDim _ _ _ _ (ix2 i t)) * broadcastInDim _ _ _ _ (ix2 i t)
    + broadcastInDim _ _ _ _ (ix2 i t) = _
  rw [host_row_read, host_row_read, host_col_read, host_ctr]
  refine congrArg (fun x => Ideal.div _ (Ideal.sqrt x) * s (ix1 t) + s' (ix1 t)) (host_var o i)

end Reference

/-! ## The two sides agree -/

open Cert.KernelIdeal Cert.KernelIdeal.Gen Cert.KernelIdeal.Hand in
/-- THE THIRD CALL: what the kernel stores, of any graph features, node sums and edge sums, is the reference's layer norm of
    its logistic output. -/
theorem perceptron_eq (g n e : Mat 16 128) (w : Mat 384 256) (b : FVec Ideal S256 .f32) (w' : Mat 256 128)
    (b' s s' : FVec Ideal S128 .f32) :
    mlpOut (F := Ideal) g n e w (shapeCast S1x256 b shapeCasts_S256_S1x256) w' (shapeCast S1x128 b' shapeCasts_S128_S1x128)
        (shapeCast S1x128 s shapeCasts_S128_S1x128) (shapeCast S1x128 s' shapeCasts_S128_S1x128)
      = hostNorm (hostGate g n e w b w' b') s s' := by
  have ho : k2_pay2 (F := Ideal) g (w1Graph w) n (w1Node w) e (w1Edge w) (shapeCast S1x256 b shapeCasts_S256_S1x256) w'
      (shapeCast S1x128 b' shapeCasts_S128_S1x128) = hostGate g n e w b w' b' := by
    funext y
    obtain ⟨i, t, rfl⟩ : ∃ (i : Fin 16) (t : Fin 128), y = ix2 i t := ⟨y 0, y 1, eq_ix2 y⟩
    rw [kernel_gate, host_gate]
    simp only [row_cast]
  unfold mlpOut k2_pay3
  funext y
  obtain ⟨i, t, rfl⟩ : ∃ (i : Fin 16) (t : Fin 128), y = ix2 i t := ⟨y 0, y 1, eq_ix2 y⟩
  rw [ho, kernel_norm, host_norm, norm_eq _ (fun t => ?_), row_cast, row_cast]
  rw [host_gate]
  exact logistic_real _

end Cert.Perceptron

end
-- ==== Proof.Hand.Value.lean ====
/-
  The two programs' results at exact values are one array of the arguments: the layer norm of the perceptron of the graph
  features and the two arrays of segment sums.
-/
module

public import proofs.«01_k».proof.Proof.Hand.Arrays
public import proofs.«01_k».proof.Proof.Hand.Perceptron
public import proofs.«01_k».proof.Proof.Gen.ReferenceIdeal.Run

@[expose] public section

set_option maxRecDepth 16384

noncomputable section

namespace Cert.Value

open Cert.Perceptron Cert.SegSum
open Idealize.ShloMosaic hiding ix1 ix2 ix3 eq_ix2
open Idealize.ShloMosaic.TcCoe Idealize.ShloMosaic.ValueIdx

section Reference
open Cert.ReferenceIdeal Cert.ReferenceIdeal.Gen

/-- The reference's segment sums of the node rows. -/
abbrev hostNodes (ids : IVec S10000 32) (x : Mat 10000 128) : Mat 16 128 :=
  Host.scatterAdd scatter_S16x128_S10000x1_S10000x128_1_0_0_1 (broadcastInDim S16x128 ![] bcast_S_S16x128 (constant S_ .f32 0x00000000#32))
    (broadcastInDim S10000x1 ![0] bcast_S10000_S10000x1_0 ids) x

/-- The reference's segment sums of the edge rows. -/
abbrev hostEdges (ids : IVec S320000 32) (x : Mat 320000 128) : Mat 16 128 :=
  Host.scatterAdd scatter_S16x128_S320000x1_S320000x128_1_0_0_1 (broadcastInDim S16x128 ![] bcast_S_S16x128 (constant S_ .f32 0x00000000#32))
    (broadcastInDim S320000x1 ![0] bcast_S320000_S320000x1_0 ids) x

/-- The result as a function of the eleven arguments. -/
def result (a0 : Mat 16 128) (a1 : Mat 10000 128) (a2 : Mat 320000 128) (a3 : IVec S10000 32) (a4 : IVec S320000 32)
    (a5 : Mat 384 256) (a6 : FVec Ideal S256 .f32) (a7 : Mat 256 128) (a8 a9 a10 : FVec Ideal S128 .f32) : Mat 16 128 :=
  hostNorm (hostGate a0 (hostNodes a3 a1) (hostEdges a4 a2) a5 a6 a7 a8) a9 a10

/-- The reference ends with `result` of its arguments. -/
theorem reference_result (m : (ℓ : Loc nD τ sig) → Buf (Elt Ideal) ℓ) (c : Dev nD) :
    Cert.ReferenceIdeal.Value.res_main_v39 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold Cert.ReferenceIdeal.Value.res_main_v39 result
  rfl

/-- Equal arguments have equal results. -/
theorem result_congr {a0 b0 : Mat 16 128} {a1 b1 : Mat 10000 128} {a2 b2 : Mat 320000 128} {a3 b3 : IVec S10000 32}
    {a4 b4 : IVec S320000 32} {a5 b5 : Mat 384 256} {a6 b6 : FVec Ideal S256 .f32} {a7 b7 : Mat 256 128}
    {a8 b8 a9 b9 a10 b10 : FVec Ideal S128 .f32} (h0 : a0 = b0) (h1 : a1 = b1) (h2 : a2 = b2) (h3 : a3 = b3) (h4 : a4 = b4)
    (h5 : a5 = b5) (h6 : a6 = b6) (h7 : a7 = b7) (h8 : a8 = b8) (h9 : a9 = b9) (h10 : a10 = b10) :
    result a0 a1 a2 a3 a4 a5 a6 a7 a8 a9 a10 = result b0 b1 b2 b3 b4 b5 b6 b7 b8 b9 b10 := by
  subst h0 h1 h2 h3 h4 h5 h6 h7 h8 h9 h10
  rfl

end Reference

section Kernel
open Cert.KernelIdeal Cert.KernelIdeal.Gen Cert.KernelIdeal.Hand

variable (m : (ℓ : Loc nD τ sig) → Buf (Elt Ideal) ℓ) (c : Dev nD)

/-- The kernel's node sums are the reference's. -/
theorem nodes_eq : (B5 m c main_v7 : S16x128.Idx → EReal) = hostNodes (nodeIds m c) (nodeRows m c) := by
  funext y
  obtain ⟨s, col, rfl⟩ : ∃ (s : Fin 16) (col : Fin 128), y = ix2 s col := ⟨y 0, y 1, eq_ix2 y⟩
  exact (node_sums m c s col).trans (scatterAdd_apply _ rfl rfl rfl rfl _ _ (nodeIds m c) (nodeRows m c) s col).symm

/-- The kernel's edge sums are the reference's. -/
theorem edges_eq : (B5 m c main_v9 : S16x128.Idx → EReal) = hostEdges (edgeIds m c) (edgeRows m c) := by
  funext y
  obtain ⟨s, col, rfl⟩ : ∃ (s : Fin 16) (col : Fin 128), y = ix2 s col := ⟨y 0, y 1, eq_ix2 y⟩
  exact (edge_sums m c s col).trans (scatterAdd_apply _ rfl rfl rfl rfl _ _ (edgeIds m c) (edgeRows m c) s col).symm

/-- The kernel ends with `result` of its arguments. -/
theorem kernel_result : ((dat2 (atTc (B5 m)) c).arrAt 9 cfg2.N : S16x128.Idx → EReal)
    = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  refine (result_eq m c).trans ((perceptron_eq _ _ _ _ _ _ _ _ _).trans ?_)
  unfold result
  exact congrArg₂ (fun n e => hostNorm (hostGate _ n e _ _ _ _) _ _) (nodes_eq m c) (edges_eq m c)

end Kernel

end Cert.Value

end
-- ==== Proof.Hand.Same.lean ====
/-
  The printed kernel and its copy for exact values are one program: equal body tables and equal entry function, at
  the bits. The claim that the kernel on bits ends cleanly then follows from the run of the copy.
-/
module

public import proofs.«01_k».proof.Defs
public import proofs.«01_k».proof.Proof.Gen.Kernel
public import proofs.«01_k».proof.Proof.Gen.KernelIdeal

@[expose] public section

noncomputable section

namespace Cert.Same

open Idealize.ShloMosaic

attribute [local instance] Cert.Kernel.Gen.facts Cert.KernelIdeal.Gen.facts

/-- The node kernel's body is the same function in both programs. -/
theorem nodes_body : @Cert.Kernel.cc0__seg_body Bits _ _ = @Cert.KernelIdeal.cc0__seg_body Bits _ _ := rfl

/-- The edge kernel's body is the same function in both programs. -/
theorem edges_body : @Cert.Kernel.cc1__seg_body Bits _ _ = @Cert.KernelIdeal.cc1__seg_body Bits _ _ := rfl

/-- The perceptron kernel's body is the same function in both programs. -/
theorem mlp_body : @Cert.Kernel.cc2__mlp_body Bits _ _ = @Cert.KernelIdeal.cc2__mlp_body Bits _ _ := rfl

set_option maxHeartbeats 4000000 in
/-- The tables of the kernels' bodies agree, label by label. -/
theorem bodies : @Cert.Kernel.defs₀ Bits _ _ = @Cert.KernelIdeal.defs₀ Bits _ _ := by
  refine congrArg Defs.onTc ?_
  funext l a
  match l, a with
  | 0, (t, s) => rfl
  | 1, (t, s) => rfl
  | 2, (t, s) => rfl

/-- The whole body tables agree. -/
theorem tables : @Cert.Kernel.defs Bits _ _ = @Cert.KernelIdeal.defs Bits _ _ :=
  congrArg (Pipeline.defs (Cert.Kernel.pcfgs (F := Bits))) bodies

/-- The entry functions agree. -/
theorem entry : @Cert.Kernel.main Bits _ _ = @Cert.KernelIdeal.main Bits _ _ := rfl

end Cert.Same

end
-- ==== Proof.lean ====
/-
  The proof of `Cert.Claim`: the three frames, the (empty) rewriting claim, and the equality of the results at exact values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Hand.Value
public import proofs.«01_k».proof.Proof.Hand.Same
public import Idealize.ShloMosaic.Lib.Quiescent
public import Idealize.ShloMosaic.Adequacy
public import Idealize.ShloMosaic.Init

@[expose] public section

noncomputable section

namespace Cert.Proof

open Idealize.ShloMosaic Idealize.SL.Sem

/-- What holds of every run of the exact-value copy's text, read on bits, holds of every run of the kernel. -/
theorem run_of_copy (m : (ℓ : Loc Cert.Kernel.nD Cert.Kernel.τ Cert.Kernel.sig) → Buf (Elt Bits) ℓ)
    (ρ : Dev Cert.Kernel.nD → PrngReg) {Q : _ → Prop} (h : θ_run (Cert.KernelIdeal.defs (F := Bits)) (onTc Cert.KernelIdeal.main) ⟨m, fun _ => 0, ρ⟩ Q) :
    θ_run (Cert.Kernel.defs (F := Bits)) (onTc Cert.Kernel.main) ⟨m, fun _ => 0, ρ⟩ Q := by
  rw [Cert.Same.tables, Cert.Same.entry]
  exact h

/-- FRAME of the kernel on bits: it ends, its arguments unchanged and every counter at zero. -/
theorem frame_kernel : Cert.quiescent_Kernel (hKernel := Cert.Kernel.Gen.facts) := fun m ρ _ =>
  run_of_copy m ρ ((θ_run Cert.KernelIdeal.defs _ _).mono (fun _ h => ⟨h.1, h.2.1⟩) (Cert.KernelIdeal.Hand.run_result (F := Bits) m ρ))

/-- FRAME of the kernel at exact values. -/
theorem frame_kernelIdeal : Cert.quiescent_KernelIdeal (hKernelIdeal := Cert.KernelIdeal.Gen.facts) := fun m ρ _ =>
  (θ_run Cert.KernelIdeal.defs _ _).mono (fun _ h => ⟨h.1, h.2.1⟩) (Cert.KernelIdeal.Hand.run_result (F := Ideal) m ρ)

/-- FRAME of the reference at exact values: it declares no semaphore, so no counter is off zero. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments the two programs end with equal results. -/
theorem algebraic : Cert.algebraic_KernelIdeal_ReferenceIdeal (hKernelIdeal := Cert.KernelIdeal.Gen.facts)
    (hReferenceIdeal := Cert.ReferenceIdeal.Gen.facts) := fun m ρ m' ρ' _ hagree =>
  ⟨fun c => (Cert.KernelIdeal.Hand.dat2 (Cert.KernelIdeal.Hand.atTc (Cert.KernelIdeal.Hand.B5 m)) c).arrAt 9 Cert.KernelIdeal.cfg2.N,
    (θ_run Cert.KernelIdeal.defs _ _).mono (fun _ h c => ⟨h.2.2 c, h.1 c⟩) (Cert.KernelIdeal.Hand.run_result (F := Ideal) m ρ),
    (θ_run Cert.ReferenceIdeal.defs _ _).mono (fun _ h c => ⟨(h c).1.trans ((Cert.Value.reference_result m' c).trans
        ((Cert.Value.result_congr (hagree c).1 (hagree c).2.1 (hagree c).2.2.1 (hagree c).2.2.2.1 (hagree c).2.2.2.2.1
          (hagree c).2.2.2.2.2.1 (hagree c).2.2.2.2.2.2.1 (hagree c).2.2.2.2.2.2.2.1 (hagree c).2.2.2.2.2.2.2.2.1
          (hagree c).2.2.2.2.2.2.2.2.2.1 (hagree c).2.2.2.2.2.2.2.2.2.2).trans (Cert.Value.kernel_result m c).symm)), (h c).2⟩)
      (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
